-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2048x512 : Shape := ⟨2, ![2048, 512]⟩
abbrev S512x512 : Shape := ⟨2, ![512, 512]⟩
abbrev S16 : Shape := ⟨1, ![16]⟩
abbrev S_ : Shape := ⟨0, ![]⟩
abbrev S32x512 : Shape := ⟨2, ![32, 512]⟩
abbrev S1 : Shape := ⟨1, ![1]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | .local _ .vmem, ⟨0, _⟩ => ⟨S1024x1024, .f32⟩
  | .local _ .vmem, ⟨1, _⟩ => ⟨S2048x512, .f32⟩
  | .local _ .vmem, ⟨2, _⟩ => ⟨S512x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_34 : BitVec 32 := 0#32
  let v63 : BitVec 1 := Scalar.cmpi .eq v2 c0_i32_34
  let v64 : BitVec 32 := Scalar.extui v63
  let c0_i32_35 : BitVec 32 := 0#32
  let v65 : BitVec 1 := Scalar.cmpi .ne v64 c0_i32_35
  v65

def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c0_i32_811 : BitVec 32 := 0#32
  let v997 : BitVec 32 := Scalar.addi v24 c0_i32_811
  let v998 : Index := Scalar.indexCast v997
  let c512 : Index := 512#32
  ![v998.toNat, 512]
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_36 : BitVec 32 := 1#32
  let v66 : BitVec 1 := Scalar.cmpi .eq v2 c1_i32_36
  let v67 : BitVec 32 := Scalar.extui v66
  let c0_i32_37 : BitVec 32 := 0#32
  let v68 : BitVec 1 := Scalar.cmpi .ne v67 c0_i32_37
  v68

def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c0_i32_811 : BitVec 32 := 0#32
  let v997 : BitVec 32 := Scalar.addi v24 c0_i32_811
  let v998 : Index := Scalar.indexCast v997
  let c0 : Index := 0#32
  ![v998.toNat, 0]
def k0_off3 (d0 : Dev nD) (c0_i32_17 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v25 : BitVec 32 := Scalar.muli v2 c1024_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_14 : BitVec 32 := 512#32
  let v26 : BitVec 32 := Scalar.muli v5 c512_i32_14
  let v27 : BitVec 32 := Scalar.addi v25 v26
  let v31 : BitVec 32 := Scalar.addi v27 c0_i32_17
  let c0_i32_44 : BitVec 32 := 0#32
  ![v31.toNat, 0]
def k0_dev3 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v69 : BitVec 32 := Scalar.muli v9 c8_i32_40
  let v70 : BitVec 32 := Scalar.addi c0_i32_41 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v71 : BitVec 32 := Scalar.muli v5 c4_i32_42
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v73 : BitVec 32 := Scalar.muli v8 c1_i32_43
  let v74 : BitVec 32 := Scalar.addi v72 v73
  v74.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_47 : BitVec 32 := 0#32
  let v81 : BitVec 1 := Scalar.cmpi .eq v2 c0_i32_47
  let v82 : BitVec 32 := Scalar.extui v81
  let c0_i32_48 : BitVec 32 := 0#32
  let v83 : BitVec 1 := Scalar.cmpi .ne v82 c0_i32_48
  v83

def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c32_i32_811 : BitVec 32 := 32#32
  let v997 : BitVec 32 := Scalar.addi v24 c32_i32_811
  let v998 : Index := Scalar.indexCast v997
  let c512 : Index := 512#32
  ![v998.toNat, 512]
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_49 : BitVec 32 := 1#32
  let v84 : BitVec 1 := Scalar.cmpi .eq v2 c1_i32_49
  let v85 : BitVec 32 := Scalar.extui v84
  let c0_i32_50 : BitVec 32 := 0#32
  let v86 : BitVec 1 := Scalar.cmpi .ne v85 c0_i32_50
  v86

def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c32_i32_811 : BitVec 32 := 32#32
  let v997 : BitVec 32 := Scalar.addi v24 c32_i32_811
  let v998 : Index := Scalar.indexCast v997
  let c0 : Index := 0#32
  ![v998.toNat, 0]
def k0_dev4 (d0 : Dev nD) : Nat :=
  let c0_i32_54 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_53 : BitVec 32 := 8#32
  let v87 : BitVec 32 := Scalar.muli v9 c8_i32_53
  let v88 : BitVec 32 := Scalar.addi c0_i32_54 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_55 : BitVec 32 := 4#32
  let v89 : BitVec 32 := Scalar.muli v5 c4_i32_55
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v91 : BitVec 32 := Scalar.muli v8 c1_i32_56
  let v92 : BitVec 32 := Scalar.addi v90 v91
  v92.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_60 : BitVec 32 := 0#32
  let v99 : BitVec 1 := Scalar.cmpi .eq v2 c0_i32_60
  let v100 : BitVec 32 := Scalar.extui v99
  let c0_i32_61 : BitVec 32 := 0#32
  let v101 : BitVec 1 := Scalar.cmpi .ne v100 c0_i32_61
  v101

def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c64_i32_811 : BitVec 32 := 64#32
  let v997 : BitVec 32 := Scalar.addi v24 c64_i32_811
  let v998 : Index := Scalar.indexCast v997
  let c512 : Index := 512#32
  ![v998.toNat, 512]
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_62 : BitVec 32 := 1#32
  let v102 : BitVec 1 := Scalar.cmpi .eq v2 c1_i32_62
  let v103 : BitVec 32 := Scalar.extui v102
  let c0_i32_63 : BitVec 32 := 0#32
  let v104 : BitVec 1 := Scalar.cmpi .ne v103 c0_i32_63
  v104

def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c64_i32_811 : BitVec 32 := 64#32
  let v997 : BitVec 32 := Scalar.addi v24 c64_i32_811
  let v998 : Index := Scalar.indexCast v997
  let c0 : Index := 0#32
  ![v998.toNat, 0]
def k0_dev5 (d0 : Dev nD) : Nat :=
  let c0_i32_67 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_66 : BitVec 32 := 8#32
  let v105 : BitVec 32 := Scalar.muli v9 c8_i32_66
  let v106 : BitVec 32 := Scalar.addi c0_i32_67 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v107 : BitVec 32 := Scalar.muli v5 c4_i32_68
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.muli v8 c1_i32_69
  let v110 : BitVec 32 := Scalar.addi v108 v109
  v110.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_73 : BitVec 32 := 0#32
  let v117 : BitVec 1 := Scalar.cmpi .eq v2 c0_i32_73
  let v118 : BitVec 32 := Scalar.extui v117
  let c0_i32_74 : BitVec 32 := 0#32
  let v119 : BitVec 1 := Scalar.cmpi .ne v118 c0_i32_74
  v119

def k0_off8 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c96_i32_811 : BitVec 32 := 96#32
  let v997 : BitVec 32 := Scalar.addi v24 c96_i32_811
  let v998 : Index := Scalar.indexCast v997
  let c512 : Index := 512#32
  ![v998.toNat, 512]
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_75 : BitVec 32 := 1#32
  let v120 : BitVec 1 := Scalar.cmpi .eq v2 c1_i32_75
  let v121 : BitVec 32 := Scalar.extui v120
  let c0_i32_76 : BitVec 32 := 0#32
  let v122 : BitVec 1 := Scalar.cmpi .ne v121 c0_i32_76
  v122

def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c96_i32_811 : BitVec 32 := 96#32
  let v997 : BitVec 32 := Scalar.addi v24 c96_i32_811
  let v998 : Index := Scalar.indexCast v997
  let c0 : Index := 0#32
  ![v998.toNat, 0]
def k0_dev6 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v123 : BitVec 32 := Scalar.muli v9 c8_i32_78
  let v124 : BitVec 32 := Scalar.addi c0_i32_79 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v125 : BitVec 32 := Scalar.muli v5 c4_i32_80
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v127 : BitVec 32 := Scalar.muli v8 c1_i32_81
  let v128 : BitVec 32 := Scalar.addi v126 v127
  v128.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_85 : BitVec 32 := 0#32
  let v135 : BitVec 1 := Scalar.cmpi .eq v2 c0_i32_85
  let v136 : BitVec 32 := Scalar.extui v135
  let c0_i32_86 : BitVec 32 := 0#32
  let v137 : BitVec 1 := Scalar.cmpi .ne v136 c0_i32_86
  v137

def k0_off10 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c128_i32_811 : BitVec 32 := 128#32
  let v997 : BitVec 32 := Scalar.addi v24 c128_i32_811
  let v998 : Index := Scalar.indexCast v997
  let c512 : Index := 512#32
  ![v998.toNat, 512]
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_87 : BitVec 32 := 1#32
  let v138 : BitVec 1 := Scalar.cmpi .eq v2 c1_i32_87
  let v139 : BitVec 32 := Scalar.extui v138
  let c0_i32_88 : BitVec 32 := 0#32
  let v140 : BitVec 1 := Scalar.cmpi .ne v139 c0_i32_88
  v140

def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c128_i32_811 : BitVec 32 := 128#32
  let v997 : BitVec 32 := Scalar.addi v24 c128_i32_811
  let v998 : Index := Scalar.indexCast v997
  let c0 : Index := 0#32
  ![v998.toNat, 0]
def k0_dev7 (d0 : Dev nD) : Nat :=
  let c0_i32_92 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_91 : BitVec 32 := 8#32
  let v141 : BitVec 32 := Scalar.muli v9 c8_i32_91
  let v142 : BitVec 32 := Scalar.addi c0_i32_92 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v143 : BitVec 32 := Scalar.muli v5 c4_i32_93
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v145 : BitVec 32 := Scalar.muli v8 c1_i32_94
  let v146 : BitVec 32 := Scalar.addi v144 v145
  v146.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_98 : BitVec 32 := 0#32
  let v153 : BitVec 1 := Scalar.cmpi .eq v2 c0_i32_98
  let v154 : BitVec 32 := Scalar.extui v153
  let c0_i32_99 : BitVec 32 := 0#32
  let v155 : BitVec 1 := Scalar.cmpi .ne v154 c0_i32_99
  v155

def k0_off12 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c160_i32_811 : BitVec 32 := 160#32
  let v997 : BitVec 32 := Scalar.addi v24 c160_i32_811
  let v998 : Index := Scalar.indexCast v997
  let c512 : Index := 512#32
  ![v998.toNat, 512]
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_100 : BitVec 32 := 1#32
  let v156 : BitVec 1 := Scalar.cmpi .eq v2 c1_i32_100
  let v157 : BitVec 32 := Scalar.extui v156
  let c0_i32_101 : BitVec 32 := 0#32
  let v158 : BitVec 1 := Scalar.cmpi .ne v157 c0_i32_101
  v158

def k0_off13 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c160_i32_811 : BitVec 32 := 160#32
  let v997 : BitVec 32 := Scalar.addi v24 c160_i32_811
  let v998 : Index := Scalar.indexCast v997
  let c0 : Index := 0#32
  ![v998.toNat, 0]
def k0_dev8 (d0 : Dev nD) : Nat :=
  let c0_i32_104 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_103 : BitVec 32 := 8#32
  let v159 : BitVec 32 := Scalar.muli v9 c8_i32_103
  let v160 : BitVec 32 := Scalar.addi c0_i32_104 v159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v161 : BitVec 32 := Scalar.muli v5 c4_i32_105
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v163 : BitVec 32 := Scalar.muli v8 c1_i32_106
  let v164 : BitVec 32 := Scalar.addi v162 v163
  v164.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_110 : BitVec 32 := 0#32
  let v171 : BitVec 1 := Scalar.cmpi .eq v2 c0_i32_110
  let v172 : BitVec 32 := Scalar.extui v171
  let c0_i32_111 : BitVec 32 := 0#32
  let v173 : BitVec 1 := Scalar.cmpi .ne v172 c0_i32_111
  v173

def k0_off14 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c192_i32_811 : BitVec 32 := 192#32
  let v997 : BitVec 32 := Scalar.addi v24 c192_i32_811
  let v998 : Index := Scalar.indexCast v997
  let c512 : Index := 512#32
  ![v998.toNat, 512]
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_112 : BitVec 32 := 1#32
  let v174 : BitVec 1 := Scalar.cmpi .eq v2 c1_i32_112
  let v175 : BitVec 32 := Scalar.extui v174
  let c0_i32_113 : BitVec 32 := 0#32
  let v176 : BitVec 1 := Scalar.cmpi .ne v175 c0_i32_113
  v176

def k0_off15 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c192_i32_811 : BitVec 32 := 192#32
  let v997 : BitVec 32 := Scalar.addi v24 c192_i32_811
  let v998 : Index := Scalar.indexCast v997
  let c0 : Index := 0#32
  ![v998.toNat, 0]
def k0_dev9 (d0 : Dev nD) : Nat :=
  let c0_i32_116 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_115 : BitVec 32 := 8#32
  let v177 : BitVec 32 := Scalar.muli v9 c8_i32_115
  let v178 : BitVec 32 := Scalar.addi c0_i32_116 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v179 : BitVec 32 := Scalar.muli v5 c4_i32_117
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v181 : BitVec 32 := Scalar.muli v8 c1_i32_118
  let v182 : BitVec 32 := Scalar.addi v180 v181
  v182.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_122 : BitVec 32 := 0#32
  let v189 : BitVec 1 := Scalar.cmpi .eq v2 c0_i32_122
  let v190 : BitVec 32 := Scalar.extui v189
  let c0_i32_123 : BitVec 32 := 0#32
  let v191 : BitVec 1 := Scalar.cmpi .ne v190 c0_i32_123
  v191

def k0_off16 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c224_i32_811 : BitVec 32 := 224#32
  let v997 : BitVec 32 := Scalar.addi v24 c224_i32_811
  let v998 : Index := Scalar.indexCast v997
  let c512 : Index := 512#32
  ![v998.toNat, 512]
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_124 : BitVec 32 := 1#32
  let v192 : BitVec 1 := Scalar.cmpi .eq v2 c1_i32_124
  let v193 : BitVec 32 := Scalar.extui v192
  let c0_i32_125 : BitVec 32 := 0#32
  let v194 : BitVec 1 := Scalar.cmpi .ne v193 c0_i32_125
  v194

def k0_off17 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c224_i32_811 : BitVec 32 := 224#32
  let v997 : BitVec 32 := Scalar.addi v24 c224_i32_811
  let v998 : Index := Scalar.indexCast v997
  let c0 : Index := 0#32
  ![v998.toNat, 0]
def k0_dev10 (d0 : Dev nD) : Nat :=
  let c0_i32_128 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_127 : BitVec 32 := 8#32
  let v195 : BitVec 32 := Scalar.muli v9 c8_i32_127
  let v196 : BitVec 32 := Scalar.addi c0_i32_128 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v197 : BitVec 32 := Scalar.muli v5 c4_i32_129
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v199 : BitVec 32 := Scalar.muli v8 c1_i32_130
  let v200 : BitVec 32 := Scalar.addi v198 v199
  v200.toNat
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_134 : BitVec 32 := 0#32
  let v207 : BitVec 1 := Scalar.cmpi .eq v2 c0_i32_134
  let v208 : BitVec 32 := Scalar.extui v207
  let c0_i32_135 : BitVec 32 := 0#32
  let v209 : BitVec 1 := Scalar.cmpi .ne v208 c0_i32_135
  v209

def k0_off18 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c256_i32_811 : BitVec 32 := 256#32
  let v997 : BitVec 32 := Scalar.addi v24 c256_i32_811
  let v998 : Index := Scalar.indexCast v997
  let c512 : Index := 512#32
  ![v998.toNat, 512]
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_136 : BitVec 32 := 1#32
  let v210 : BitVec 1 := Scalar.cmpi .eq v2 c1_i32_136
  let v211 : BitVec 32 := Scalar.extui v210
  let c0_i32_137 : BitVec 32 := 0#32
  let v212 : BitVec 1 := Scalar.cmpi .ne v211 c0_i32_137
  v212

def k0_off19 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c256_i32_811 : BitVec 32 := 256#32
  let v997 : BitVec 32 := Scalar.addi v24 c256_i32_811
  let v998 : Index := Scalar.indexCast v997
  let c0 : Index := 0#32
  ![v998.toNat, 0]
def k0_dev11 (d0 : Dev nD) : Nat :=
  let c0_i32_141 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_140 : BitVec 32 := 8#32
  let v213 : BitVec 32 := Scalar.muli v9 c8_i32_140
  let v214 : BitVec 32 := Scalar.addi c0_i32_141 v213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_142 : BitVec 32 := 4#32
  let v215 : BitVec 32 := Scalar.muli v5 c4_i32_142
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v217 : BitVec 32 := Scalar.muli v8 c1_i32_143
  let v218 : BitVec 32 := Scalar.addi v216 v217
  v218.toNat
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_147 : BitVec 32 := 0#32
  let v225 : BitVec 1 := Scalar.cmpi .eq v2 c0_i32_147
  let v226 : BitVec 32 := Scalar.extui v225
  let c0_i32_148 : BitVec 32 := 0#32
  let v227 : BitVec 1 := Scalar.cmpi .ne v226 c0_i32_148
  v227

def k0_off20 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c288_i32_811 : BitVec 32 := 288#32
  let v997 : BitVec 32 := Scalar.addi v24 c288_i32_811
  let v998 : Index := Scalar.indexCast v997
  let c512 : Index := 512#32
  ![v998.toNat, 512]
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_149 : BitVec 32 := 1#32
  let v228 : BitVec 1 := Scalar.cmpi .eq v2 c1_i32_149
  let v229 : BitVec 32 := Scalar.extui v228
  let c0_i32_150 : BitVec 32 := 0#32
  let v230 : BitVec 1 := Scalar.cmpi .ne v229 c0_i32_150
  v230

def k0_off21 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c288_i32_811 : BitVec 32 := 288#32
  let v997 : BitVec 32 := Scalar.addi v24 c288_i32_811
  let v998 : Index := Scalar.indexCast v997
  let c0 : Index := 0#32
  ![v998.toNat, 0]
def k0_dev12 (d0 : Dev nD) : Nat :=
  let c0_i32_153 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_152 : BitVec 32 := 8#32
  let v231 : BitVec 32 := Scalar.muli v9 c8_i32_152
  let v232 : BitVec 32 := Scalar.addi c0_i32_153 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_154 : BitVec 32 := 4#32
  let v233 : BitVec 32 := Scalar.muli v5 c4_i32_154
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v235 : BitVec 32 := Scalar.muli v8 c1_i32_155
  let v236 : BitVec 32 := Scalar.addi v234 v235
  v236.toNat
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_159 : BitVec 32 := 0#32
  let v243 : BitVec 1 := Scalar.cmpi .eq v2 c0_i32_159
  let v244 : BitVec 32 := Scalar.extui v243
  let c0_i32_160 : BitVec 32 := 0#32
  let v245 : BitVec 1 := Scalar.cmpi .ne v244 c0_i32_160
  v245

def k0_off22 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c320_i32_811 : BitVec 32 := 320#32
  let v997 : BitVec 32 := Scalar.addi v24 c320_i32_811
  let v998 : Index := Scalar.indexCast v997
  let c512 : Index := 512#32
  ![v998.toNat, 512]
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_161 : BitVec 32 := 1#32
  let v246 : BitVec 1 := Scalar.cmpi .eq v2 c1_i32_161
  let v247 : BitVec 32 := Scalar.extui v246
  let c0_i32_162 : BitVec 32 := 0#32
  let v248 : BitVec 1 := Scalar.cmpi .ne v247 c0_i32_162
  v248

def k0_off23 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c320_i32_811 : BitVec 32 := 320#32
  let v997 : BitVec 32 := Scalar.addi v24 c320_i32_811
  let v998 : Index := Scalar.indexCast v997
  let c0 : Index := 0#32
  ![v998.toNat, 0]
def k0_dev13 (d0 : Dev nD) : Nat :=
  let c0_i32_165 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_164 : BitVec 32 := 8#32
  let v249 : BitVec 32 := Scalar.muli v9 c8_i32_164
  let v250 : BitVec 32 := Scalar.addi c0_i32_165 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v251 : BitVec 32 := Scalar.muli v5 c4_i32_166
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v253 : BitVec 32 := Scalar.muli v8 c1_i32_167
  let v254 : BitVec 32 := Scalar.addi v252 v253
  v254.toNat
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_171 : BitVec 32 := 0#32
  let v261 : BitVec 1 := Scalar.cmpi .eq v2 c0_i32_171
  let v262 : BitVec 32 := Scalar.extui v261
  let c0_i32_172 : BitVec 32 := 0#32
  let v263 : BitVec 1 := Scalar.cmpi .ne v262 c0_i32_172
  v263

def k0_off24 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c352_i32_811 : BitVec 32 := 352#32
  let v997 : BitVec 32 := Scalar.addi v24 c352_i32_811
  let v998 : Index := Scalar.indexCast v997
  let c512 : Index := 512#32
  ![v998.toNat, 512]
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_173 : BitVec 32 := 1#32
  let v264 : BitVec 1 := Scalar.cmpi .eq v2 c1_i32_173
  let v265 : BitVec 32 := Scalar.extui v264
  let c0_i32_174 : BitVec 32 := 0#32
  let v266 : BitVec 1 := Scalar.cmpi .ne v265 c0_i32_174
  v266

def k0_off25 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c352_i32_811 : BitVec 32 := 352#32
  let v997 : BitVec 32 := Scalar.addi v24 c352_i32_811
  let v998 : Index := Scalar.indexCast v997
  let c0 : Index := 0#32
  ![v998.toNat, 0]
def k0_dev14 (d0 : Dev nD) : Nat :=
  let c0_i32_177 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_176 : BitVec 32 := 8#32
  let v267 : BitVec 32 := Scalar.muli v9 c8_i32_176
  let v268 : BitVec 32 := Scalar.addi c0_i32_177 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v269 : BitVec 32 := Scalar.muli v5 c4_i32_178
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v271 : BitVec 32 := Scalar.muli v8 c1_i32_179
  let v272 : BitVec 32 := Scalar.addi v270 v271
  v272.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_183 : BitVec 32 := 0#32
  let v279 : BitVec 1 := Scalar.cmpi .eq v2 c0_i32_183
  let v280 : BitVec 32 := Scalar.extui v279
  let c0_i32_184 : BitVec 32 := 0#32
  let v281 : BitVec 1 := Scalar.cmpi .ne v280 c0_i32_184
  v281

def k0_off26 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c384_i32_811 : BitVec 32 := 384#32
  let v997 : BitVec 32 := Scalar.addi v24 c384_i32_811
  let v998 : Index := Scalar.indexCast v997
  let c512 : Index := 512#32
  ![v998.toNat, 512]
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_185 : BitVec 32 := 1#32
  let v282 : BitVec 1 := Scalar.cmpi .eq v2 c1_i32_185
  let v283 : BitVec 32 := Scalar.extui v282
  let c0_i32_186 : BitVec 32 := 0#32
  let v284 : BitVec 1 := Scalar.cmpi .ne v283 c0_i32_186
  v284

def k0_off27 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c384_i32_811 : BitVec 32 := 384#32
  let v997 : BitVec 32 := Scalar.addi v24 c384_i32_811
  let v998 : Index := Scalar.indexCast v997
  let c0 : Index := 0#32
  ![v998.toNat, 0]
def k0_dev15 (d0 : Dev nD) : Nat :=
  let c0_i32_189 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_188 : BitVec 32 := 8#32
  let v285 : BitVec 32 := Scalar.muli v9 c8_i32_188
  let v286 : BitVec 32 := Scalar.addi c0_i32_189 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v287 : BitVec 32 := Scalar.muli v5 c4_i32_190
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v289 : BitVec 32 := Scalar.muli v8 c1_i32_191
  let v290 : BitVec 32 := Scalar.addi v288 v289
  v290.toNat
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_195 : BitVec 32 := 0#32
  let v297 : BitVec 1 := Scalar.cmpi .eq v2 c0_i32_195
  let v298 : BitVec 32 := Scalar.extui v297
  let c0_i32_196 : BitVec 32 := 0#32
  let v299 : BitVec 1 := Scalar.cmpi .ne v298 c0_i32_196
  v299

def k0_off28 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c416_i32_811 : BitVec 32 := 416#32
  let v997 : BitVec 32 := Scalar.addi v24 c416_i32_811
  let v998 : Index := Scalar.indexCast v997
  let c512 : Index := 512#32
  ![v998.toNat, 512]
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_197 : BitVec 32 := 1#32
  let v300 : BitVec 1 := Scalar.cmpi .eq v2 c1_i32_197
  let v301 : BitVec 32 := Scalar.extui v300
  let c0_i32_198 : BitVec 32 := 0#32
  let v302 : BitVec 1 := Scalar.cmpi .ne v301 c0_i32_198
  v302

def k0_off29 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c416_i32_811 : BitVec 32 := 416#32
  let v997 : BitVec 32 := Scalar.addi v24 c416_i32_811
  let v998 : Index := Scalar.indexCast v997
  let c0 : Index := 0#32
  ![v998.toNat, 0]
def k0_dev16 (d0 : Dev nD) : Nat :=
  let c0_i32_201 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_200 : BitVec 32 := 8#32
  let v303 : BitVec 32 := Scalar.muli v9 c8_i32_200
  let v304 : BitVec 32 := Scalar.addi c0_i32_201 v303
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v305 : BitVec 32 := Scalar.muli v5 c4_i32_202
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v307 : BitVec 32 := Scalar.muli v8 c1_i32_203
  let v308 : BitVec 32 := Scalar.addi v306 v307
  v308.toNat
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_207 : BitVec 32 := 0#32
  let v315 : BitVec 1 := Scalar.cmpi .eq v2 c0_i32_207
  let v316 : BitVec 32 := Scalar.extui v315
  let c0_i32_208 : BitVec 32 := 0#32
  let v317 : BitVec 1 := Scalar.cmpi .ne v316 c0_i32_208
  v317

def k0_off30 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c448_i32_811 : BitVec 32 := 448#32
  let v997 : BitVec 32 := Scalar.addi v24 c448_i32_811
  let v998 : Index := Scalar.indexCast v997
  let c512 : Index := 512#32
  ![v998.toNat, 512]
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_209 : BitVec 32 := 1#32
  let v318 : BitVec 1 := Scalar.cmpi .eq v2 c1_i32_209
  let v319 : BitVec 32 := Scalar.extui v318
  let c0_i32_210 : BitVec 32 := 0#32
  let v320 : BitVec 1 := Scalar.cmpi .ne v319 c0_i32_210
  v320

def k0_off31 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c448_i32_811 : BitVec 32 := 448#32
  let v997 : BitVec 32 := Scalar.addi v24 c448_i32_811
  let v998 : Index := Scalar.indexCast v997
  let c0 : Index := 0#32
  ![v998.toNat, 0]
def k0_dev17 (d0 : Dev nD) : Nat :=
  let c0_i32_213 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_212 : BitVec 32 := 8#32
  let v321 : BitVec 32 := Scalar.muli v9 c8_i32_212
  let v322 : BitVec 32 := Scalar.addi c0_i32_213 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_214 : BitVec 32 := 4#32
  let v323 : BitVec 32 := Scalar.muli v5 c4_i32_214
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v325 : BitVec 32 := Scalar.muli v8 c1_i32_215
  let v326 : BitVec 32 := Scalar.addi v324 v325
  v326.toNat
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_219 : BitVec 32 := 0#32
  let v333 : BitVec 1 := Scalar.cmpi .eq v2 c0_i32_219
  let v334 : BitVec 32 := Scalar.extui v333
  let c0_i32_220 : BitVec 32 := 0#32
  let v335 : BitVec 1 := Scalar.cmpi .ne v334 c0_i32_220
  v335

def k0_off32 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c480_i32_811 : BitVec 32 := 480#32
  let v997 : BitVec 32 := Scalar.addi v24 c480_i32_811
  let v998 : Index := Scalar.indexCast v997
  let c512 : Index := 512#32
  ![v998.toNat, 512]
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_221 : BitVec 32 := 1#32
  let v336 : BitVec 1 := Scalar.cmpi .eq v2 c1_i32_221
  let v337 : BitVec 32 := Scalar.extui v336
  let c0_i32_222 : BitVec 32 := 0#32
  let v338 : BitVec 1 := Scalar.cmpi .ne v337 c0_i32_222
  v338

def k0_off33 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let c480_i32_811 : BitVec 32 := 480#32
  let v997 : BitVec 32 := Scalar.addi v24 c480_i32_811
  let v998 : Index := Scalar.indexCast v997
  let c0 : Index := 0#32
  ![v998.toNat, 0]
def k0_dev18 (d0 : Dev nD) : Nat :=
  let c0_i32_225 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_224 : BitVec 32 := 8#32
  let v339 : BitVec 32 := Scalar.muli v9 c8_i32_224
  let v340 : BitVec 32 := Scalar.addi c0_i32_225 v339
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_226 : BitVec 32 := 4#32
  let v341 : BitVec 32 := Scalar.muli v5 c4_i32_226
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v343 : BitVec 32 := Scalar.muli v8 c1_i32_227
  let v344 : BitVec 32 := Scalar.addi v342 v343
  v344.toNat
def k0_off34 (d0 : Dev nD) (c0_i32_18 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32_15 : BitVec 32 := 1024#32
  let v28 : BitVec 32 := Scalar.muli v9 c1024_i32_15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_16 : BitVec 32 := 512#32
  let v29 : BitVec 32 := Scalar.muli v5 c512_i32_16
  let v30 : BitVec 32 := Scalar.addi v28 v29
  let v32 : BitVec 32 := Scalar.addi v30 c0_i32_18
  let c0_i32_250 : BitVec 32 := 0#32
  ![v32.toNat, 0]
def k0_dev19 (d0 : Dev nD) : Nat :=
  let c0_i32_247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_246 : BitVec 32 := 8#32
  let v367 : BitVec 32 := Scalar.muli v2 c8_i32_246
  let v368 : BitVec 32 := Scalar.addi c0_i32_247 v367
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_248 : BitVec 32 := 4#32
  let v369 : BitVec 32 := Scalar.muli v10 c4_i32_248
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v371 : BitVec 32 := Scalar.muli v8 c1_i32_249
  let v372 : BitVec 32 := Scalar.addi v370 v371
  v372.toNat
def k0_dev20 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v389 : BitVec 32 := Scalar.muli v2 c8_i32_263
  let v390 : BitVec 32 := Scalar.addi c0_i32_264 v389
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_265 : BitVec 32 := 4#32
  let v391 : BitVec 32 := Scalar.muli v10 c4_i32_265
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v393 : BitVec 32 := Scalar.muli v8 c1_i32_266
  let v394 : BitVec 32 := Scalar.addi v392 v393
  v394.toNat
def k0_dev21 (d0 : Dev nD) : Nat :=
  let c0_i32_281 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_280 : BitVec 32 := 8#32
  let v411 : BitVec 32 := Scalar.muli v2 c8_i32_280
  let v412 : BitVec 32 := Scalar.addi c0_i32_281 v411
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_282 : BitVec 32 := 4#32
  let v413 : BitVec 32 := Scalar.muli v10 c4_i32_282
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v415 : BitVec 32 := Scalar.muli v8 c1_i32_283
  let v416 : BitVec 32 := Scalar.addi v414 v415
  v416.toNat
def k0_dev22 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v433 : BitVec 32 := Scalar.muli v2 c8_i32_297
  let v434 : BitVec 32 := Scalar.addi c0_i32_298 v433
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_299 : BitVec 32 := 4#32
  let v435 : BitVec 32 := Scalar.muli v10 c4_i32_299
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v437 : BitVec 32 := Scalar.muli v8 c1_i32_300
  let v438 : BitVec 32 := Scalar.addi v436 v437
  v438.toNat
def k0_dev23 (d0 : Dev nD) : Nat :=
  let c0_i32_315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_314 : BitVec 32 := 8#32
  let v455 : BitVec 32 := Scalar.muli v2 c8_i32_314
  let v456 : BitVec 32 := Scalar.addi c0_i32_315 v455
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_316 : BitVec 32 := 4#32
  let v457 : BitVec 32 := Scalar.muli v10 c4_i32_316
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_317 : BitVec 32 := 1#32
  let v459 : BitVec 32 := Scalar.muli v8 c1_i32_317
  let v460 : BitVec 32 := Scalar.addi v458 v459
  v460.toNat
def k0_dev24 (d0 : Dev nD) : Nat :=
  let c0_i32_332 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_331 : BitVec 32 := 8#32
  let v477 : BitVec 32 := Scalar.muli v2 c8_i32_331
  let v478 : BitVec 32 := Scalar.addi c0_i32_332 v477
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_333 : BitVec 32 := 4#32
  let v479 : BitVec 32 := Scalar.muli v10 c4_i32_333
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v481 : BitVec 32 := Scalar.muli v8 c1_i32_334
  let v482 : BitVec 32 := Scalar.addi v480 v481
  v482.toNat
def k0_dev25 (d0 : Dev nD) : Nat :=
  let c0_i32_349 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_348 : BitVec 32 := 8#32
  let v499 : BitVec 32 := Scalar.muli v2 c8_i32_348
  let v500 : BitVec 32 := Scalar.addi c0_i32_349 v499
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_350 : BitVec 32 := 4#32
  let v501 : BitVec 32 := Scalar.muli v10 c4_i32_350
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v503 : BitVec 32 := Scalar.muli v8 c1_i32_351
  let v504 : BitVec 32 := Scalar.addi v502 v503
  v504.toNat
def k0_dev26 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_365 : BitVec 32 := 8#32
  let v521 : BitVec 32 := Scalar.muli v2 c8_i32_365
  let v522 : BitVec 32 := Scalar.addi c0_i32_366 v521
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_367 : BitVec 32 := 4#32
  let v523 : BitVec 32 := Scalar.muli v10 c4_i32_367
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v525 : BitVec 32 := Scalar.muli v8 c1_i32_368
  let v526 : BitVec 32 := Scalar.addi v524 v525
  v526.toNat
def k0_dev27 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v543 : BitVec 32 := Scalar.muli v2 c8_i32_382
  let v544 : BitVec 32 := Scalar.addi c0_i32_383 v543
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_384 : BitVec 32 := 4#32
  let v545 : BitVec 32 := Scalar.muli v10 c4_i32_384
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v547 : BitVec 32 := Scalar.muli v8 c1_i32_385
  let v548 : BitVec 32 := Scalar.addi v546 v547
  v548.toNat
def k0_dev28 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v565 : BitVec 32 := Scalar.muli v2 c8_i32_399
  let v566 : BitVec 32 := Scalar.addi c0_i32_400 v565
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_401 : BitVec 32 := 4#32
  let v567 : BitVec 32 := Scalar.muli v10 c4_i32_401
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v569 : BitVec 32 := Scalar.muli v8 c1_i32_402
  let v570 : BitVec 32 := Scalar.addi v568 v569
  v570.toNat
def k0_dev29 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v587 : BitVec 32 := Scalar.muli v2 c8_i32_416
  let v588 : BitVec 32 := Scalar.addi c0_i32_417 v587
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_418 : BitVec 32 := 4#32
  let v589 : BitVec 32 := Scalar.muli v10 c4_i32_418
  let v590 : BitVec 32 := Scalar.addi v588 v589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v591 : BitVec 32 := Scalar.muli v8 c1_i32_419
  let v592 : BitVec 32 := Scalar.addi v590 v591
  v592.toNat
def k0_dev30 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v609 : BitVec 32 := Scalar.muli v2 c8_i32_433
  let v610 : BitVec 32 := Scalar.addi c0_i32_434 v609
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_435 : BitVec 32 := 4#32
  let v611 : BitVec 32 := Scalar.muli v10 c4_i32_435
  let v612 : BitVec 32 := Scalar.addi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v613 : BitVec 32 := Scalar.muli v8 c1_i32_436
  let v614 : BitVec 32 := Scalar.addi v612 v613
  v614.toNat
def k0_dev31 (d0 : Dev nD) : Nat :=
  let c0_i32_451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_450 : BitVec 32 := 8#32
  let v631 : BitVec 32 := Scalar.muli v2 c8_i32_450
  let v632 : BitVec 32 := Scalar.addi c0_i32_451 v631
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_452 : BitVec 32 := 4#32
  let v633 : BitVec 32 := Scalar.muli v10 c4_i32_452
  let v634 : BitVec 32 := Scalar.addi v632 v633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v635 : BitVec 32 := Scalar.muli v8 c1_i32_453
  let v636 : BitVec 32 := Scalar.addi v634 v635
  v636.toNat
def k0_dev32 (d0 : Dev nD) : Nat :=
  let c0_i32_468 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_467 : BitVec 32 := 8#32
  let v653 : BitVec 32 := Scalar.muli v2 c8_i32_467
  let v654 : BitVec 32 := Scalar.addi c0_i32_468 v653
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_469 : BitVec 32 := 4#32
  let v655 : BitVec 32 := Scalar.muli v10 c4_i32_469
  let v656 : BitVec 32 := Scalar.addi v654 v655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v657 : BitVec 32 := Scalar.muli v8 c1_i32_470
  let v658 : BitVec 32 := Scalar.addi v656 v657
  v658.toNat
def k0_dev33 (d0 : Dev nD) : Nat :=
  let c0_i32_485 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_484 : BitVec 32 := 8#32
  let v675 : BitVec 32 := Scalar.muli v2 c8_i32_484
  let v676 : BitVec 32 := Scalar.addi c0_i32_485 v675
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_486 : BitVec 32 := 4#32
  let v677 : BitVec 32 := Scalar.muli v10 c4_i32_486
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_487 : BitVec 32 := 1#32
  let v679 : BitVec 32 := Scalar.muli v8 c1_i32_487
  let v680 : BitVec 32 := Scalar.addi v678 v679
  v680.toNat
def k0_dev34 (d0 : Dev nD) : Nat :=
  let c0_i32_502 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_501 : BitVec 32 := 8#32
  let v697 : BitVec 32 := Scalar.muli v2 c8_i32_501
  let v698 : BitVec 32 := Scalar.addi c0_i32_502 v697
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_503 : BitVec 32 := 4#32
  let v699 : BitVec 32 := Scalar.muli v10 c4_i32_503
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_504 : BitVec 32 := 1#32
  let v701 : BitVec 32 := Scalar.muli v8 c1_i32_504
  let v702 : BitVec 32 := Scalar.addi v700 v701
  v702.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Places.lean ====
/-
# The devices of the mesh and the bands of rows

The mesh is `2 × 2 × 4`; device `c` has first coordinate `c / 8` and second coordinate `(c / 4) % 2`. A device
exchanges data with the device across the first axis (`xp c`) and with the one across the second (`yp c`).
Every copy moves a band of 32 whole rows, so the pieces of the buffers are bands of rows, named by their first row.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

set_option backward.proofsInPublic true in
/-- The device across the first axis. -/
def xp (c : Dev nD) : Dev nD := ⟨8 * (1 - c.val / 8) + c.val % 8, by have h : c.val < 16 := c.isLt; change _ < 16; omega⟩

set_option backward.proofsInPublic true in
/-- The device across the second axis. -/
def yp (c : Dev nD) : Dev nD := ⟨8 * (c.val / 8) + 4 * (1 - c.val / 4 % 2) + c.val % 4, by have h : c.val < 16 := c.isLt; change _ < 16; omega⟩

/-- A device's first coordinate. -/
def xc (c : Dev nD) : ℕ := c.val / 8
/-- A device's second coordinate. -/
def yc (c : Dev nD) : ℕ := c.val / 4 % 2

theorem xc_lt (c : Dev nD) : xc c < 2 := by revert c; decide
theorem yc_lt (c : Dev nD) : yc c < 2 := by revert c; decide
theorem xp_xp (c : Dev nD) : xp (xp c) = c := by revert c; decide
theorem yp_yp (c : Dev nD) : yp (yp c) = c := by revert c; decide
theorem xc_xp (c : Dev nD) : xc (xp c) = 1 - xc c := by revert c; decide
theorem yc_xp (c : Dev nD) : yc (xp c) = yc c := by revert c; decide
theorem xc_yp (c : Dev nD) : xc (yp c) = xc c := by revert c; decide
theorem yc_yp (c : Dev nD) : yc (yp c) = 1 - yc c := by revert c; decide
theorem xp_ne_yp (c : Dev nD) : xp c ≠ yp c := by revert c; decide

/-- Going across the first axis, and back. -/
def xSwap : Dev nD ≃ Dev nD := ⟨xp, xp, xp_xp, xp_xp⟩
/-- Going across the second axis, and back. -/
def ySwap : Dev nD ≃ Dev nD := ⟨yp, yp, yp_yp, yp_yp⟩

/-- The first row, in a device's result, of the half block that comes to it over the first axis. -/
def near (c : Dev nD) : ℕ := 1024 * (1 - xc c) + 512 * yc c
/-- The first row, in a device's result, of the half block that comes to it over the second axis. -/
def far (c : Dev nD) : ℕ := 1024 * (1 - xc c) + 512 * (1 - yc c)

theorem near_xp (c : Dev nD) : near (xp c) = 1024 * xc c + 512 * yc c := by revert c; decide
theorem far_yp (c : Dev nD) : far (yp c) = near c := by revert c; decide
theorem near_le (c : Dev nD) : near c ≤ 1536 := by revert c; decide

/-! ## Bands of rows -/

/-- The indices of the rows `lo, …, lo + n - 1` of a two-dimensional array. -/
def band {h w : ℕ} (lo n : ℕ) : Finset (⟨2, ![h, w]⟩ : Shape).Idx :=
  Finset.univ.filter fun i => lo ≤ (i 0).val ∧ (i 0).val < lo + n

theorem mem_band {h w lo n : ℕ} {i : (⟨2, ![h, w]⟩ : Shape).Idx} : i ∈ band lo n ↔ lo ≤ (i 0).val ∧ (i 0).val < lo + n := by
  unfold band; rw [Finset.mem_filter]; exact ⟨fun h => h.2, fun h => ⟨Finset.mem_univ _, h⟩⟩

/-- A band of all the rows is the whole array. -/
theorem band_all {h w : ℕ} : (band 0 h : Finset (⟨2, ![h, w]⟩ : Shape).Idx) = Finset.univ := by
  ext i; rw [mem_band]
  exact ⟨fun _ => Finset.mem_univ _, fun _ => ⟨Nat.zero_le _, by rw [Nat.zero_add]; exact (i 0).isLt⟩⟩

/-- A band cut in two. -/
theorem band_add {h w : ℕ} (lo a b : ℕ) : (band lo (a + b) : Finset (⟨2, ![h, w]⟩ : Shape).Idx) = band lo a ∪ band (lo + a) b := by
  ext i; rw [Finset.mem_union, mem_band, mem_band, mem_band]; omega

/-- Bands one after the other do not meet. -/
theorem band_disjoint {h w : ℕ} {lo a lo' b : ℕ} (hl : lo + a ≤ lo') : Disjoint (band lo a : Finset (⟨2, ![h, w]⟩ : Shape).Idx) (band lo' b) := by
  rw [Finset.disjoint_left]; intro i; rw [mem_band, mem_band]; omega

/-- The rectangle of `n` whole rows from row `off 0` on is that band. -/
theorem rect_band {h w : ℕ} (off size : Fin 2 → ℕ) (inb : ∀ a, off a + size a ≤ (![h, w] : Fin 2 → ℕ) a) (h0 : off 1 = 0) (hw : size 1 = w) :
    (Rect.unit (s := ⟨2, ![h, w]⟩) off size inb).set = band (off 0) (size 0) := by
  ext i
  rw [Rect.mem_set_unit, mem_band]
  constructor
  · intro H; exact H 0
  · intro H a
    match a with
    | ⟨0, _⟩ => exact H
    | ⟨1, _⟩ =>
      have hi : (i 1).val < w := (i 1).isLt
      show off 1 ≤ (i 1).val ∧ (i 1).val < off 1 + size 1
      omega

/-- A band of `32 n` rows is `n` bands of 32 rows. -/
theorem band_chunks {h w : ℕ} (lo n : ℕ) :
    (band lo (32 * n) : Finset (⟨2, ![h, w]⟩ : Shape).Idx) = (Finset.range n).biUnion fun k => band (lo + 32 * k) 32 := by
  ext i
  rw [mem_band, Finset.mem_biUnion]
  constructor
  · rintro ⟨h1, h2⟩
    exact ⟨((i 0).val - lo) / 32, Finset.mem_range.mpr (by omega), mem_band.mpr (by omega)⟩
  · rintro ⟨k, hk, hi⟩
    have := Finset.mem_range.mp hk
    have := mem_band.mp hi
    omega

/-- Two different chunks of 32 rows do not meet. -/
theorem chunks_disjoint {h w : ℕ} (lo : ℕ) {j k : ℕ} (hne : j ≠ k) :
    Disjoint (band (lo + 32 * j) 32 : Finset (⟨2, ![h, w]⟩ : Shape).Idx) (band (lo + 32 * k) 32) := by
  rw [Finset.disjoint_left]; intro i; rw [mem_band, mem_band]; omega

end Cert.Exchange

end
-- ==== Proof.Contents.lean ====
/-
# What the buffers hold

`xstg c` is device `c`'s argument as its kernel reads it. From it: `sendAt c`, what the send buffer of `c` holds once
filled (the half of the columns that the device across the first axis needs, for half of the rows); `outAt c`, the
result of `c`. A copy of a chunk of 32 rows turns the one into the other at the receiver.
-/
module

public import proofs.«01_k».proof.Proof.Places
public import Idealize.ShloMosaic.Lib.ViewIndex
public import Idealize.ShloMosaic.Lib.Pipeline.ValueKit.Geometry

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The memory at the start: any contents, every semaphore counter zero, any generator registers. -/
def s₀ : MemSt nD τ sig (Elt F) := ⟨m, fun _ => 0, ρ⟩

/-- Device `c`'s argument, as its kernel reads it. -/
def xstg (c : Dev nD) : (cc0_stg0_0 : Ref sig .tc).ty.Contents (Elt F) :=
  (win0_0.blk (0 : Fin 1)).view.read (Elt F) ((s₀ m ρ).mem ((c : Thread nD τ).loc main_arg0))

/-- The index of row `r` and column `j` of the argument (both taken modulo 1024). -/
def xIdx (r j : ℕ) : S1024x1024.Idx := fun a => match a with
  | ⟨0, _⟩ => ⟨r % 1024, Nat.mod_lt _ (by decide)⟩
  | ⟨1, _⟩ => ⟨j % 1024, Nat.mod_lt _ (by decide)⟩

/-- An index is the one of its own row and column. -/
theorem xIdx_self (i : S1024x1024.Idx) : xIdx (i 0).val (i 1).val = i := by
  funext a
  match a with
  | ⟨0, _⟩ => exact Fin.ext (Nat.mod_eq_of_lt (i 0).isLt)
  | ⟨1, _⟩ => exact Fin.ext (Nat.mod_eq_of_lt (i 1).isLt)

/-- Device `c`'s argument at a row and a column. -/
def xAt (c : Dev nD) (r j : ℕ) : Elt F .f32 := xstg m ρ c (xIdx r j)

/-- What device `c`'s send buffer holds once filled. -/
def sendAt (c : Dev nD) : (cc0_scratch0 : Ref sig .tc).ty.Contents (Elt F) :=
  fun (i : S512x512.Idx) => xAt m ρ c (512 * yc c + (i 0).val) (512 * (1 - xc c) + (i 1).val)

/-- The device whose argument has row `r` of device `c`'s result. -/
def src (c : Dev nD) (r : ℕ) : Dev nD :=
  if r / 1024 = xc c then c else if r / 512 % 2 = yc c then xp c else xp (yp c)

/-- Device `c`'s result. -/
def outAt (c : Dev nD) : (cc0_stg1_0 : Ref sig .tc).ty.Contents (Elt F) :=
  fun (i : S2048x512.Idx) => xAt m ρ (src c (i 0).val) ((i 0).val % 1024) (512 * xc c + (i 1).val)

/-- The chunks of the send buffer and of the result, as the copies name them. -/
abbrev sChunk (off : Fin 2 → ℕ) (inb : ∀ a, off a + S32x512.size a ≤ S512x512.size a) : Memref sig .tc .vmem S32x512 .f32 :=
  (Memref.whole cc0_scratch0 : Memref sig .tc .vmem S512x512 .f32).slice (Rect.unit (s := S512x512) off S32x512.size inb) (fun _ => rfl)
abbrev oChunk (off : Fin 2 → ℕ) (inb : ∀ a, off a + S32x512.size a ≤ S2048x512.size a) : Memref sig .tc .vmem S32x512 .f32 :=
  (Memref.whole cc0_stg1_0 : Memref sig .tc .vmem S2048x512 .f32).slice (Rect.unit (s := S2048x512) off S32x512.size inb) (fun _ => rfl)

/-- A chunk of the send buffer is a band of 32 rows, -/
theorem sChunk_set (lo : ℕ) (inb) : (sChunk ![lo, 0] inb).view.set = (band lo 32 : Finset S512x512.Idx) :=
  (View.set_slice_whole _ _).trans (rect_band ![lo, 0] S32x512.size inb rfl rfl)
/-- and so is a chunk of the result. -/
theorem oChunk_set (lo : ℕ) (inb) : (oChunk ![lo, 0] inb).view.set = (band lo 32 : Finset S2048x512.Idx) :=
  (View.set_slice_whole _ _).trans (rect_band ![lo, 0] S32x512.size inb rfl rfl)

/-- Row `r` of the half block that came to `xp c` over the first axis is from `c`. -/
theorem src_near (c : Dev nD) {r : ℕ} (h1 : near (xp c) ≤ r) (h2 : r < near (xp c) + 512) : src (xp c) r = c ∧ r % 1024 = 512 * yc c + (r - near (xp c)) := by
  rw [near_xp] at h1 h2 ⊢
  have hx := xc_lt c
  have hy := yc_lt c
  constructor
  · unfold src
    rw [xc_xp, yc_xp, if_neg (by omega), if_pos (by omega), xp_xp]
  · omega

/-- A row of the half block that comes to a device over the second axis is from where the device across the second
    axis has that row from. -/
theorem src_far (c : Dev nD) {r : ℕ} (h1 : near c ≤ r) (h2 : r < near c + 512) : src (yp c) r = src c r := by
  unfold near at h1 h2
  have hx := xc_lt c
  have hy := yc_lt c
  unfold src
  rw [xc_yp, yc_yp, if_neg (by omega), if_neg (by omega), if_neg (by omega), if_pos (by omega), yp_yp]

omit [FloatOps F] in
/-- The send buffer's contents at an index. -/
theorem sendAt_apply (c : Dev nD) (i : S512x512.Idx) :
    sendAt m ρ c i = xAt m ρ c (512 * yc c + (i 0).val) (512 * (1 - xc c) + (i 1).val) := rfl
omit [FloatOps F] in
/-- The result's contents at an index. -/
theorem outAt_apply (c : Dev nD) (i : S2048x512.Idx) :
    outAt m ρ c i = xAt m ρ (src c (i 0).val) ((i 0).val % 1024) (512 * xc c + (i 1).val) := rfl

/-- What a copy leaves in its window: if reading the source's window gives what reading `g` in the target's window gives,
    the target agrees with `g` there. -/
theorem copied {κ κ' : Kind} {sp sp' : Space} {s : Shape} {e : EltTy} {Val : EltTy → Type} (v : View sig κ sp s e) (v' : View sig κ' sp' s e)
    (fd g : v.ty.Contents Val) (fs : v'.ty.Contents Val) (h : ∀ x, v'.read Val fs x = v.read Val g x) (i : v.ty.Idx) (hi : i ∈ v.set) :
    v.write Val fd (v'.read Val fs) Finset.univ i = g i := by
  obtain ⟨x, -, rfl⟩ := Finset.mem_map.mp hi
  rw [View.write_emb_of_mem fd _ (Finset.mem_univ x), h x, View.read_apply, cast_cast, cast_eq]

omit [FloatOps F] in
/-- Reading a chunk of the send buffer, -/
theorem sChunk_read (off : Fin 2 → ℕ) (inb : ∀ a, off a + S32x512.size a ≤ S512x512.size a) (f : (cc0_scratch0 : Ref sig .tc).ty.Contents (Elt F)) (x : S32x512.Idx) :
    ∃ i : S512x512.Idx, (sChunk off inb).view.read (Elt F) f x = f i ∧ ∀ a, (i a).val = off a + (x a).val :=
  ⟨(Rect.unit (s := S512x512) off S32x512.size inb).emb x, rfl, fun a => ValueKit.rect_emb_unit_val (s := S512x512) off S32x512.size inb x a⟩
omit [FloatOps F] in
/-- and a chunk of the result. -/
theorem oChunk_read (off : Fin 2 → ℕ) (inb : ∀ a, off a + S32x512.size a ≤ S2048x512.size a) (f : (cc0_stg1_0 : Ref sig .tc).ty.Contents (Elt F)) (x : S32x512.Idx) :
    ∃ i : S2048x512.Idx, (oChunk off inb).view.read (Elt F) f x = f i ∧ ∀ a, (i a).val = off a + (x a).val :=
  ⟨(Rect.unit (s := S2048x512) off S32x512.size inb).emb x, rfl, fun a => ValueKit.rect_emb_unit_val (s := S2048x512) off S32x512.size inb x a⟩

omit [FloatOps F] in
/-- A chunk of the send buffer of `c` copied to `xp c` is the chunk of the result of `xp c` there. -/
theorem copied_near (c : Dev nD) (k : ℕ) (hk : k < 16) (inb : ∀ a, (![32 * k, 0] : Fin 2 → ℕ) a + S32x512.size a ≤ S512x512.size a)
    (inb' : ∀ a, (![near (xp c) + 32 * k, 0] : Fin 2 → ℕ) a + S32x512.size a ≤ S2048x512.size a)
    (fd : (cc0_stg1_0 : Ref sig .tc).ty.Contents (Elt F)) (i : S2048x512.Idx) (hi : i ∈ (oChunk ![near (xp c) + 32 * k, 0] inb').view.set) :
    (oChunk ![near (xp c) + 32 * k, 0] inb').view.write (Elt F) fd ((sChunk ![32 * k, 0] inb).view.read (Elt F) (sendAt m ρ c)) Finset.univ i = outAt m ρ (xp c) i := by
  refine copied (oChunk ![near (xp c) + 32 * k, 0] inb').view (sChunk ![32 * k, 0] inb).view fd _ _ (fun x => ?_) i hi
  obtain ⟨j, hj, ej⟩ := sChunk_read ![32 * k, 0] inb (sendAt m ρ c) x
  obtain ⟨l, hl, el⟩ := oChunk_read ![near (xp c) + 32 * k, 0] inb' (outAt m ρ (xp c)) x
  have hx : (x 0).val < 32 := (x 0).isLt
  have j0 : (j 0).val = 32 * k + (x 0).val := ej 0
  have j1 : (j 1).val = 0 + (x 1).val := ej 1
  have l0 : (l 0).val = near (xp c) + 32 * k + (x 0).val := el 0
  have l1 : (l 1).val = 0 + (x 1).val := el 1
  obtain ⟨h1, h2⟩ := src_near c (r := near (xp c) + 32 * k + (x 0).val) (by omega) (by omega)
  rw [hj, hl, sendAt_apply, outAt_apply, j0, j1, l0, l1, h1, h2, xc_xp]
  congr 2
  omega

omit [FloatOps F] in
/-- A chunk of the result of `c` copied to the same place on `yp c` is the chunk of the result of `yp c` there. -/
theorem copied_far (c : Dev nD) (k : ℕ) (hk : k < 16) (inb : ∀ a, (![near c + 32 * k, 0] : Fin 2 → ℕ) a + S32x512.size a ≤ S2048x512.size a)
    (fd : (cc0_stg1_0 : Ref sig .tc).ty.Contents (Elt F)) (i : S2048x512.Idx) (hi : i ∈ (oChunk ![near c + 32 * k, 0] inb).view.set) :
    (oChunk ![near c + 32 * k, 0] inb).view.write (Elt F) fd ((oChunk ![near c + 32 * k, 0] inb).view.read (Elt F) (outAt m ρ c)) Finset.univ i = outAt m ρ (yp c) i := by
  refine copied (oChunk ![near c + 32 * k, 0] inb).view (oChunk ![near c + 32 * k, 0] inb).view fd _ _ (fun x => ?_) i hi
  have hx : (x 0).val < 32 := (x 0).isLt
  obtain ⟨j, hj, ej⟩ := oChunk_read ![near c + 32 * k, 0] inb (outAt m ρ c) x
  obtain ⟨l, hl, el⟩ := oChunk_read ![near c + 32 * k, 0] inb (outAt m ρ (yp c)) x
  have j0 : (j 0).val = near c + 32 * k + (x 0).val := ej 0
  have j1 : (j 1).val = 0 + (x 1).val := ej 1
  have l0 : (l 0).val = near c + 32 * k + (x 0).val := el 0
  have l1 : (l 1).val = 0 + (x 1).val := el 1
  rw [hj, hl, outAt_apply, outAt_apply, j0, j1, l0, l1, src_far c (by omega) (by omega), xc_yp]

abbrev xM : Memref sig .tc .vmem S1024x1024 .f32 := Memref.whole cc0_stg0_0
abbrev oM : Memref sig .tc .vmem S2048x512 .f32 := Memref.whole cc0_stg1_0
abbrev sM : Memref sig .tc .vmem S512x512 .f32 := Memref.whole cc0_scratch0

/-- A window of whole rows of the send buffer, read or written by the core, is a band of rows, -/
theorem sWin_set (lo : ℕ) (inb : ∀ a, (![lo, 0] : Fin 2 → ℕ) a + S32x512.size a ≤ S512x512.size a) :
    (sM.access (Rect.unit (s := S512x512) ![lo, 0] S32x512.size inb)).set = (band lo 32 : Finset S512x512.Idx) :=
  (View.set_slice_whole _ _).trans (rect_band ![lo, 0] S32x512.size inb rfl rfl)
/-- and so is one of half of the result. -/
theorem oWin_set (lo : ℕ) (inb : ∀ a, (![lo, 0] : Fin 2 → ℕ) a + S1024x512.size a ≤ S2048x512.size a) :
    (oM.access (Rect.unit (s := S2048x512) ![lo, 0] S1024x512.size inb)).set = (band lo 1024 : Finset S2048x512.Idx) :=
  (View.set_slice_whole _ _).trans (rect_band ![lo, 0] S1024x512.size inb rfl rfl)

omit [FloatOps F] in
/-- A chunk of the argument stored in the send buffer is that chunk of the send buffer, filled. -/
theorem staged (c : Dev nD) (k : ℕ) (off : Fin 2 → ℕ) (h0 : off 0 = 512 * yc c + 32 * k) (h1 : off 1 = 512 * (1 - xc c))
    (inb : ∀ a, off a + S32x512.size a ≤ S1024x1024.size a) (inb' : ∀ a, (![32 * k, 0] : Fin 2 → ℕ) a + S32x512.size a ≤ S512x512.size a)
    (fd : (cc0_scratch0 : Ref sig .tc).ty.Contents (Elt F)) (i : S512x512.Idx) (hi : i ∈ (band (32 * k) 32 : Finset S512x512.Idx)) :
    (sM.access (Rect.unit (s := S512x512) ![32 * k, 0] S32x512.size inb')).write (Elt F) fd
      ((xM.access (Rect.unit (s := S1024x1024) off S32x512.size inb)).read (Elt F) (xstg m ρ c)) Finset.univ i = sendAt m ρ c i := by
  refine copied (sM.access (Rect.unit (s := S512x512) ![32 * k, 0] S32x512.size inb')) (xM.access (Rect.unit (s := S1024x1024) off S32x512.size inb))
    fd (sendAt m ρ c) (xstg m ρ c) (fun x => ?_) i (by rw [sWin_set]; exact hi)
  obtain ⟨j, hj, ej⟩ : ∃ j : S1024x1024.Idx, (xM.access (Rect.unit (s := S1024x1024) off S32x512.size inb)).read (Elt F) (xstg m ρ c) x = xstg m ρ c j
      ∧ ∀ a, (j a).val = off a + (x a).val :=
    ⟨_, rfl, fun a => ValueKit.rect_emb_unit_val (s := S1024x1024) off S32x512.size inb x a⟩
  obtain ⟨l, hl, el⟩ := sChunk_read ![32 * k, 0] inb' (sendAt m ρ c) x
  have j0 : (j 0).val = off 0 + (x 0).val := ej 0
  have j1 : (j 1).val = off 1 + (x 1).val := ej 1
  have l0 : (l 0).val = 32 * k + (x 0).val := el 0
  have l1 : (l 1).val = 0 + (x 1).val := el 1
  rw [hj]
  refine Eq.trans ?_ hl.symm
  rw [sendAt_apply, ← xIdx_self j, l0, l1, j0, j1, h0, h1, Nat.add_assoc, Nat.zero_add]
  rfl

omit [FloatOps F] in
/-- The half of the argument's columns that stays, stored in the result, is that half of the result. -/
theorem kept (c : Dev nD) (a : ℕ) (ha : xc c = a) (inb : ∀ b, (![0, 512 * a] : Fin 2 → ℕ) b + S1024x512.size b ≤ S1024x1024.size b)
    (inb' : ∀ b, (![1024 * a, 0] : Fin 2 → ℕ) b + S1024x512.size b ≤ S2048x512.size b)
    (fd : (cc0_stg1_0 : Ref sig .tc).ty.Contents (Elt F)) (i : S2048x512.Idx) (hi : i ∈ (band (1024 * a) 1024 : Finset S2048x512.Idx)) :
    (oM.access (Rect.unit (s := S2048x512) ![1024 * a, 0] S1024x512.size inb')).write (Elt F) fd
      ((xM.access (Rect.unit (s := S1024x1024) ![0, 512 * a] S1024x512.size inb)).read (Elt F) (xstg m ρ c)) Finset.univ i = outAt m ρ c i := by
  refine copied (oM.access (Rect.unit (s := S2048x512) ![1024 * a, 0] S1024x512.size inb')) (xM.access (Rect.unit (s := S1024x1024) ![0, 512 * a] S1024x512.size inb))
    fd (outAt m ρ c) (xstg m ρ c) (fun x => ?_) i (by rw [oWin_set]; exact hi)
  obtain ⟨j, hj, ej⟩ : ∃ j : S1024x1024.Idx, (xM.access (Rect.unit (s := S1024x1024) ![0, 512 * a] S1024x512.size inb)).read (Elt F) (xstg m ρ c) x = xstg m ρ c j
      ∧ ∀ b, (j b).val = (![0, 512 * a] : Fin 2 → ℕ) b + (x b).val :=
    ⟨_, rfl, fun b => ValueKit.rect_emb_unit_val (s := S1024x1024) ![0, 512 * a] S1024x512.size inb x b⟩
  obtain ⟨l, hl, el⟩ : ∃ l : S2048x512.Idx, (oM.access (Rect.unit (s := S2048x512) ![1024 * a, 0] S1024x512.size inb')).read (Elt F) (outAt m ρ c) x = outAt m ρ c l
      ∧ ∀ b, (l b).val = (![1024 * a, 0] : Fin 2 → ℕ) b + (x b).val :=
    ⟨_, rfl, fun b => ValueKit.rect_emb_unit_val (s := S2048x512) ![1024 * a, 0] S1024x512.size inb' x b⟩
  have hx : (x 0).val < 1024 := (x 0).isLt
  have j0 : (j 0).val = 0 + (x 0).val := ej 0
  have j1 : (j 1).val = 512 * a + (x 1).val := ej 1
  have l0 : (l 0).val = 1024 * a + (x 0).val := el 0
  have l1 : (l 1).val = 0 + (x 1).val := el 1
  have hs : src c (1024 * a + (x 0).val) = c := by unfold src; rw [if_pos (by omega)]
  rw [hj, hl, outAt_apply, ← xIdx_self j, l0, l1, j0, j1, ha, hs, Nat.zero_add, Nat.zero_add, Nat.mul_add_mod, Nat.mod_eq_of_lt hx]
  rfl

end Cert.Exchange

end
-- ==== Proof.Protocol.lean ====
/-
# The protocol of the semaphores

Device `c` has a barrier semaphore and four families of sixteen copy semaphores, one per chunk `k` of 32 rows:

* the barrier: waited on by `c` for 2 before any copy; one unit from `xp c`, who hands over the rows of its result that
  `c`'s first copies land in, and one from `yp c`, who hands over the rows that `c`'s second copies land in;
* family 0: `c`'s own first copy of chunk `k` has left: chunk `k` of the send buffer of `c` back, as filled;
* family 1: the first copy of chunk `k` by `xp c` has landed: those rows of the result of `c`, finished;
* family 2: `c`'s own second copy of chunk `k` has left: the same rows of its result back;
* family 3: the second copy of chunk `k` by `yp c` has landed: those rows of the result of `c`, finished.

Every semaphore goes through one round. A device waits on its barrier owing both kinds of landings, on family 1 owing
landings of family 3 only, and on families 0, 2, 3 owing nothing: so the levels are barrier 1, family 1 at 2, family 3 at 3.
-/
module

public import proofs.«01_k».proof.Proof.Contents
public import Mathlib.Algebra.Order.BigOperators.Group.LocallyFinite

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state of the copies' and the barrier's rounds, beside the pipeline's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Semaphores -/

/-- The barrier semaphore. -/
abbrev barS : Sem sig := (SemArray.scalar (sig.barrier 0 rfl) : Sems sig S_).sem

set_option backward.proofsInPublic true in
/-- The copy semaphore of family `f` and chunk `k`. -/
def dsem (f k : ℕ) : DmaSem sig := ⟨2 + 16 * (f % 4) + k % 16, by show _ < 66; omega⟩

theorem dsem_mod (f k : ℕ) : dsem (f % 4) (k % 16) = dsem f k := by unfold dsem; simp only [Nat.mod_mod]

abbrev barCell (c : Dev nD) : GSem nD τ sig := ((c : Thread nD τ), .reg barS)
abbrev dCell (c : Dev nD) (f k : ℕ) : GSem nD τ sig := ((c : Thread nD τ), .dma (dsem f k))

/-- A device's copy semaphores, and with the barrier. -/
abbrev osem (j : Fin 4 × Fin 16) : SemLoc sig := .dma (dsem j.1.val j.2.val)
abbrev csem : Option (Fin 4 × Fin 16) → SemLoc sig
  | none => .reg barS
  | some j => osem j
abbrev Key : Type := Dev nD × Option (Fin 4 × Fin 16)
abbrev kcell (x : Key) : GSem nD τ sig := ((x.1 : Thread nD τ), csem x.2)

/-- The credit of a copy of one chunk. -/
def N : ℕ := (oChunk ![0, 0] (by decide)).view.dmaCredit
theorem N_pos : 0 < N := View.dmaCredit_pos _ (by decide)

/-! ## Bands held -/

/-- A band of rows of the result of device `c`, held. -/
def oBand (c : Dev nD) (lo n : ℕ) (f : (cc0_stg1_0 : Ref sig .tc).ty.Contents (Elt F)) : sProp 𝕄 :=
  ((c : Thread nD τ).loc cc0_stg1_0) ↦[(band lo n : Finset S2048x512.Idx)]{fullShare} f
/-- A band of rows of the send buffer of device `c`, held. -/
def sBand (c : Dev nD) (lo n : ℕ) (f : (cc0_scratch0 : Ref sig .tc).ty.Contents (Elt F)) : sProp 𝕄 :=
  ((c : Thread nD τ).loc cc0_scratch0) ↦[(band lo n : Finset S512x512.Idx)]{fullShare} f
/-- The argument of device `c`, held. -/
def xPts (c : Dev nD) : sProp 𝕄 := ((c : Thread nD τ).loc cc0_stg0_0) ↦{fullShare} xstg m ρ c

instance oBand_storable (c : Dev nD) (lo n f) : BI.Storable (upEmb : UEmb _ 𝕄) (oBand (F := F) c lo n f) := by unfold oBand; infer_instance
instance sBand_storable (c : Dev nD) (lo n f) : BI.Storable (upEmb : UEmb _ 𝕄) (sBand (F := F) c lo n f) := by unfold sBand; infer_instance

/-- A band of the result cut in two. -/
theorem oBand_add (c : Dev nD) (lo a b f) : oBand (F := F) c lo (a + b) f = iprop(oBand c lo a f ∗ oBand c (lo + a) b f) := by
  have hd : Disjoint (band lo a : Finset S2048x512.Idx) (band (lo + a) b) := band_disjoint le_rfl
  unfold oBand; rw [band_add]; exact equiv_iff.mp ⟨(pointsTo_union hd).1, (pointsTo_union hd).2⟩
/-- A band of the result cut in chunks. -/
theorem oBand_chunks (c : Dev nD) (lo n f) : oBand (F := F) c lo (32 * n) f = bigSep (Finset.range n) fun k => oBand c (lo + 32 * k) 32 f := by
  unfold oBand; rw [band_chunks]; exact pointsTo_biUnion _ _ fun _ _ _ _ h => chunks_disjoint _ h
/-- A band of the send buffer cut in chunks. -/
theorem sBand_chunks (c : Dev nD) (lo n f) : sBand (F := F) c lo (32 * n) f = bigSep (Finset.range n) fun k => sBand c (lo + 32 * k) 32 f := by
  unfold sBand; rw [band_chunks]; exact pointsTo_biUnion _ _ fun _ _ _ _ h => chunks_disjoint _ h
/-- The first rows of the send buffer cut in chunks. -/
theorem sBand_rows (c : Dev nD) (n f) : sBand (F := F) c 0 (32 * n) f = bigSep (Finset.range n) fun k => sBand c (32 * k) 32 f := by
  rw [sBand_chunks]; exact bigSep_congr fun k _ => by rw [Nat.zero_add]
/-- The whole result. -/
theorem oBand_all (c : Dev nD) (f) : oBand (F := F) c 0 2048 f = (((c : Thread nD τ).loc cc0_stg1_0) ↦{fullShare} f : sProp 𝕄) := by
  unfold oBand; rw [band_all]
/-- The whole send buffer. -/
theorem sBand_all (c : Dev nD) (f) : sBand (F := F) c 0 512 f = (((c : Thread nD τ).loc cc0_scratch0) ↦{fullShare} f : sProp 𝕄) := by
  unfold sBand; rw [band_all]

/-- The result is the half that stays and the two quarters that come in. -/
theorem oBand_split (c : Dev nD) (f) :
    oBand (F := F) c 0 2048 f = iprop(oBand c (1024 * xc c) 1024 f ∗ oBand c (near c) 512 f ∗ oBand c (far c) 512 f) := by
  have hx := xc_lt c
  have hy := yc_lt c
  have h : oBand (F := F) c (1024 * (1 - xc c)) 1024 f = iprop(oBand c (near c) 512 f ∗ oBand c (far c) 512 f) := by
    rw [show 1024 = 512 + 512 from rfl, oBand_add]
    rcases (show yc c = 0 ∨ yc c = 1 by omega) with e | e
    · rw [show near c = (512 + 512) * (1 - xc c) by unfold near; omega, show far c = (512 + 512) * (1 - xc c) + 512 by unfold far; omega]
    · rw [show near c = (512 + 512) * (1 - xc c) + 512 by unfold near; omega, show far c = (512 + 512) * (1 - xc c) by unfold far; omega]
      exact equiv_iff.mp ⟨BI.sep_comm, BI.sep_comm⟩
  rw [← h, show 2048 = 1024 + 1024 from rfl, oBand_add]
  rcases (show xc c = 0 ∨ xc c = 1 by omega) with e | e
  · rw [e]
  · rw [e]; exact equiv_iff.mp ⟨BI.sep_comm, BI.sep_comm⟩

/-! ## The schedule -/

/-- What the signal of `xp c` hands to `c`: the rows of the result of `xp c` that `c`'s first copies land in. -/
def barPayX (c : Dev nD) : sProp 𝕄 := iprop(∃ f, oBand (xp c) (near (xp c)) 512 f)
/-- What the signal of `yp c` hands to `c`: the rows of the result of `yp c` that `c`'s second copies land in. -/
def barPayY (c : Dev nD) : sProp 𝕄 := iprop(∃ f, oBand (yp c) (far (yp c)) 512 f)
/-- What the copy semaphore of family `f` and chunk `k` hands to `c`. -/
def copyPay (c : Dev nD) (f k : ℕ) : sProp 𝕄 :=
  if f = 0 then sBand c (32 * k) 32 (sendAt m ρ c)
  else if f = 3 then oBand c (far c + 32 * k) 32 (outAt m ρ c)
  else oBand c (near c + 32 * k) 32 (outAt m ρ c)

/-- One round: a barrier has two duties of one unit, a copy semaphore one duty of a chunk's credit. -/
def sched : Rounds.Schedule (GSem nD τ sig) Bool 𝕄 where
  duties g r := if r = 0 ∧ g.1.2 = .tc then (match g.2 with
    | .reg s => Finset.univ
    | .dma q => {false}) else ∅
  unitless _ := False
  amount g _ _ := match g.2 with
    | .reg _ => 1
    | .dma _ => N
  payload g _ d := match g.2 with
    | .reg _ => if d then barPayY g.1.1 else barPayX g.1.1
    | .dma q => copyPay m ρ g.1.1 ((q.val - 2) / 16) ((q.val - 2) % 16)
  amount_pos g _ _ _ := by
    rcases g with ⟨t, s | q⟩
    · exact Nat.one_pos
    · exact N_pos

instance sched_payload_storable (g : GSem nD τ sig) (r : ℕ) (d : Bool) : BI.Storable (upEmb : UEmb _ 𝕄) ((sched (F := F) m ρ).payload g r d) := by
  rcases g with ⟨t, s | q⟩
  · show BI.Storable upEmb (if d then barPayY t.1 else barPayX t.1)
    unfold barPayX barPayY; split <;> infer_instance
  · show BI.Storable upEmb (copyPay m ρ t.1 ((q.val - 2) / 16) ((q.val - 2) % 16))
    unfold copyPay; (repeat' split) <;> infer_instance

section Sched
variable (c : Dev nD) (f k : ℕ)

theorem duties_bar : (sched (F := F) m ρ).duties (barCell c) 0 = Finset.univ := by dsimp only [sched]; exact if_pos ⟨rfl, rfl⟩
theorem duties_copy : (sched (F := F) m ρ).duties (dCell c f k) 0 = {false} := by dsimp only [sched]; exact if_pos ⟨rfl, rfl⟩
theorem duties_later (g : GSem nD τ sig) : ∀ r, 1 ≤ r → (sched (F := F) m ρ).duties g r = ∅ :=
  fun r hr => by dsimp only [sched]; exact if_neg fun h => by omega
theorem amount_bar (d : Bool) : (sched (F := F) m ρ).amount (barCell c) 0 d = 1 := rfl
theorem amount_copy (d : Bool) : (sched (F := F) m ρ).amount (dCell c f k) 0 d = N := rfl
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_copy : (sched (F := F) m ρ).expect (dCell c f k) 0 = N := by
  unfold Schedule.expect Schedule.amountOf; rw [duties_copy, Finset.sum_singleton, amount_copy]
theorem payload_bar_false : (sched (F := F) m ρ).payload (barCell c) 0 false = barPayX c := rfl
theorem payload_bar_true : (sched (F := F) m ρ).payload (barCell c) 0 true = barPayY c := rfl
theorem payload_copy (hf : f < 4) (hk : k < 16) (d : Bool) : (sched (F := F) m ρ).payload (dCell c f k) 0 d = copyPay m ρ c f k := by
  show copyPay m ρ c ((2 + 16 * (f % 4) + k % 16 - 2) / 16) ((2 + 16 * (f % 4) + k % 16 - 2) % 16) = _
  congr 1 <;> omega
/-- All that a barrier's round hands over. -/
theorem rest_bar : bigSep ((sched (F := F) m ρ).duties (barCell c) 0 \ ∅) (fun d => (sched (F := F) m ρ).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
/-- All that a copy semaphore's round hands over. -/
theorem rest_copy (hf : f < 4) (hk : k < 16) : bigSep ((sched (F := F) m ρ).duties (dCell c f k) 0 \ ∅) (fun d => (sched (F := F) m ρ).payload (dCell c f k) 0 d)
    = copyPay m ρ c f k := by
  rw [Finset.sdiff_empty, duties_copy, bigSep_singleton, payload_copy m ρ c f k hf hk]

end Sched

/-! ## What is owed, and the levels -/

/-- What device `c` owes for its first copies from chunk `n` on, -/
def OX (c : Dev nD) (n : ℕ) : CellTallies nD τ sig Unit := ∑ k ∈ Finset.Ico n 16, tallyAt (dCell (xp c) 1 k) () N
/-- and for its second copies. -/
def OY (c : Dev nD) (n : ℕ) : CellTallies nD τ sig Unit := ∑ k ∈ Finset.Ico n 16, tallyAt (dCell (yp c) 3 k) () N
/-- All that device `c` owes: its copies' landings and the two barrier units. -/
def O₀ (c : Dev nD) : CellTallies nD τ sig Unit := (OX c 0 + OY c 0) + tallyAt (barCell (yp c)) () 1 + tallyAt (barCell (xp c)) () 1

theorem OX_step (c : Dev nD) {n : ℕ} (h : n < 16) : OX c n = OX c (n + 1) + tallyAt (dCell (xp c) 1 n) () N := by
  unfold OX; rw [Finset.sum_eq_sum_Ico_succ_bot h, add_comm]
theorem OY_step (c : Dev nD) {n : ℕ} (h : n < 16) : OY c n = OY c (n + 1) + tallyAt (dCell (yp c) 3 n) () N := by
  unfold OY; rw [Finset.sum_eq_sum_Ico_succ_bot h, add_comm]
theorem OX_end (c : Dev nD) : OX c 16 = 0 := by unfold OX; rw [Finset.Ico_self, Finset.sum_empty]
theorem OY_end (c : Dev nD) : OY c 16 = 0 := by unfold OY; rw [Finset.Ico_self, Finset.sum_empty]

def L (g : GSem nD τ sig) : Finset Unit := if g.1.2 = .tc then {()} else ∅
/-- The levels: barriers 1, family 1 at 2, family 3 at 3, all else 0. -/
def lv (g : GSem nD τ sig) (_ : Unit) : ℕ := match g.2 with
  | .reg _ => 1
  | .dma q => if (q.val - 2) / 16 = 1 then 2 else if (q.val - 2) / 16 = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_copy (c : Dev nD) (f k : ℕ) (hf : f < 4) : lv (dCell c f k) () = if f = 1 then 2 else if f = 3 then 3 else 0 := by
  show (if (2 + 16 * (f % 4) + k % 16 - 2) / 16 = 1 then 2 else if (2 + 16 * (f % 4) + k % 16 - 2) / 16 = 3 then 3 else 0) = _
  rw [show (2 + 16 * (f % 4) + k % 16 - 2) / 16 = f by omega]

/-- All that `O` owes is at cells of level above `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with e | e
  · exact h' g u (by omega)
  · exact h g u e
theorem above_tally {n : ℕ} (c : Dev nD) (sm : SemLoc sig) (a : ℕ) (h : n < lv ((c : Thread nD τ), sm) ()) : Above n (tallyAt ((c : Thread nD τ), sm) () a) := fun g u hp => by
  rw [tallyAt_apply] at hp
  by_cases hg : g = ((c : Thread nD τ), sm) ∧ u = ()
  · rw [hg.1, hg.2, L_tc]; exact ⟨Finset.mem_singleton_self _, h⟩
  · rw [if_neg hg] at hp; exact absurd hp (Nat.lt_irrefl 0)
theorem above_sum {n : ℕ} (s : Finset ℕ) (O : ℕ → CellTallies nD τ sig Unit) (h : ∀ k ∈ s, Above n (O k)) : Above n (∑ k ∈ s, O k) := by
  induction s using Finset.induction_on with
  | empty => rw [Finset.sum_empty]; exact above_zero n
  | insert a s ha ih =>
    rw [Finset.sum_insert ha]
    exact above_add (h a (Finset.mem_insert_self a s)) (ih fun k hk => h k (Finset.mem_insert_of_mem hk))

theorem above_OX (c : Dev nD) (n : ℕ) : Above 1 (OX c n) := above_sum _ _ fun k _ => above_tally _ _ _ (by rw [lv_copy _ _ _ (by decide)]; decide)
theorem above_OY (c : Dev nD) (n : ℕ) : Above 2 (OY c n) := above_sum _ _ fun k _ => above_tally _ _ _ (by rw [lv_copy _ _ _ (by decide)]; decide)
theorem above_le {a b : ℕ} (h : a ≤ b) {O : CellTallies nD τ sig Unit} (hO : Above b O) : Above a O := fun g u hp => ⟨(hO g u hp).1, h.trans_lt (hO g u hp).2⟩
theorem above_O₀ (c : Dev nD) : Above 0 (O₀ c) :=
  above_add (above_add (above_add (above_le (by decide) (above_OX c 0)) (above_le (by decide) (above_OY c 0))) (above_tally _ _ _ Nat.one_pos)) (above_tally _ _ _ Nat.one_pos)

/-- A device may wait on a semaphore of its own when all it owes is above that semaphore's level. -/
theorem mayWait (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## The records every device reads -/

/-- The invariants of all cells, and that every cell has reached its round. -/
def records (K : Key → ℕ) : sProp 𝕄 :=
  iprop((bigSep Finset.univ fun x : Key => cellInv ER (sched m ρ) (K x) (kcell x)) ∗ bigSep Finset.univ fun x : Key => reached ER (kcell x) 0)

instance records_persistent (K : Key → ℕ) : BI.Persistent (records m ρ K) := by unfold records; infer_instance

/-- The place of a copy semaphore among the keys. -/
abbrev dKey (c : Dev nD) (f k : ℕ) : Key := (c, some (⟨f % 4, Nat.mod_lt _ (by decide)⟩, ⟨k % 16, Nat.mod_lt _ (by decide)⟩))
theorem kcell_dKey (c : Dev nD) (f k : ℕ) : kcell (dKey c f k) = dCell c f k := by show ((c : Thread nD τ), SemLoc.dma (dsem (f % 4) (k % 16))) = _; rw [dsem_mod]

theorem inv_bar (K : Key → ℕ) (c : Dev nD) : records m ρ K ⊢ cellInv ER (sched m ρ) (K (c, none)) (barCell c) := by
  unfold records; iintro ⟨#HI, -⟩
  iapply (show (bigSep Finset.univ fun x : Key => (cellInv ER (sched m ρ) (K x) (kcell x) : sProp 𝕄)) ⊢ _ from bigSep_elim (Finset.mem_univ ((c, none) : Key)))
  iexact HI
theorem inv_copy (K : Key → ℕ) (c : Dev nD) (f k : ℕ) : records m ρ K ⊢ cellInv ER (sched m ρ) (K (dKey c f k)) (dCell c f k) := by
  unfold records; rw [← kcell_dKey]; iintro ⟨#HI, -⟩
  iapply (show (bigSep Finset.univ fun x : Key => (cellInv ER (sched m ρ) (K x) (kcell x) : sProp 𝕄)) ⊢ _ from bigSep_elim (Finset.mem_univ (dKey c f k)))
  iexact HI
theorem reached_bar (K : Key → ℕ) (c : Dev nD) : records m ρ K ⊢ reached ER (barCell c) 0 := by
  unfold records; iintro ⟨-, #HR⟩
  iapply (show (bigSep Finset.univ fun x : Key => (reached ER (kcell x) 0 : sProp 𝕄)) ⊢ _ from bigSep_elim (Finset.mem_univ ((c, none) : Key)))
  iexact HR
theorem reached_copy (K : Key → ℕ) (c : Dev nD) (f k : ℕ) : records m ρ K ⊢ reached ER (dCell c f k) 0 := by
  unfold records; rw [← kcell_dKey]; iintro ⟨-, #HR⟩
  iapply (show (bigSep Finset.univ fun x : Key => (reached ER (kcell x) 0 : sProp 𝕄)) ⊢ _ from bigSep_elim (Finset.mem_univ (dKey c f k)))
  iexact HR

end Cert.Exchange

end
-- ==== Proof.Steps.lean ====
/-
# One step of the kernel at a time

Each theorem here takes the program whose first effect is one effect of the kernel, and asks for the rest of it from what
that effect leaves. `R` is whatever else is held. The states in which a device is:

* `Sending n`: chunks below `n` of the send buffer are on their way;
* `Filling k a`: chunk `k` is held, and filled if the device's first coordinate is below `a`;
* `Forwarding n`: the first copies of chunks below `n` have landed and the second copies of these chunks are on their way;
* `Landed k`: the first copy of chunk `k` has landed and is not yet sent on;
* `Draining a b d`: nothing is owed; `a`, `b`, `d` of the waits on families 0, 2 and 3 are done.
-/
module

public import proofs.«01_k».proof.Proof.Protocol
public import Idealize.SL.BI.BigOpNat

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's programs on a device, and what has to be held for one to end in `Q`. -/
abbrev KProg (F : FTy → Type) [FloatOps F] (α : Type) : Type 1 := Prog (TpuEff nD τ sig (Elt F) Λ₀ .tc) α
abbrev WP (c : Dev nD) {α : Type} (p : KProg F α) (Q : α → sProp 𝕄) : sProp 𝕄 :=
  wp frame (wpE (defs₀ (F := F)) 𝒱₀ (c : Thread nD τ) none) Set.univ p Q

/-- A program that returns. -/
theorem wp_done {c : Dev nD} {α : Type} {a : α} {P : sProp 𝕄} {Q : α → sProp 𝕄} (h : P ⊢ Q a) : P ⊢ WP c (Prog.ret a) Q := by
  refine h.trans ?_
  unfold WP; rw [wp_ret]; iintro H; imodintro; iexact H
/-- A program followed by another. -/
theorem wp_then {c : Dev nD} {α β : Type} {p : Prog (TpuEff nD τ sig (Elt F) Λ₀ .tc) α} {k : α → Prog (TpuEff nD τ sig (Elt F) Λ₀ .tc) β} {P P' : sProp 𝕄}
    {Q : β → sProp 𝕄} (h : P ⊢ WP c p (fun _ => P')) (h' : ∀ a, P' ⊢ WP c (k a) Q) : P ⊢ WP c (p >>= k) Q := by
  unfold WP at h h' ⊢; rw [wp_bind]; exact h.trans (wp_mono _ _ _ h')

variable (m : (ℓ : Loc nD τ sig) → Buf (Elt F) ℓ) (ρ : Dev nD → PrngReg) (K : Key → ℕ)

/-- What every device knows throughout. -/
def base : sProp 𝕄 := iprop(records m ρ K ∗ levAts L lv)
instance base_persistent : BI.Persistent (base m ρ K) := by unfold base; infer_instance

/-- Device `c` owes `O`. -/
def ow (c : Dev nD) (O : CellTallies nD τ sig Unit) : sProp 𝕄 := iprop(∃ W, owes (c : Thread nD τ) O W)

/-! ## Waiting on a copy semaphore -/

/-- A wait on a copy semaphore for a whole chunk hands over what that semaphore hands over. -/
theorem wp_copyWait {m ρ K} {c : Dev nD} {α : Type} {R : sProp 𝕄} {Q : α → sProp 𝕄} (f k : ℕ) (hf : f < 4) (hk : k < 16) {n : ℕ} {O : CellTallies nD τ sig Unit}
    (hO : Above n O) (hn : lv (dCell c f k) () ≤ n) {sem : DmaSem sig} (hS : sem = dsem f k) {sh sh' : Shape} {e e' : EltTy} {sp sp' : Space}
    {src : Memref sig .tc sp' sh' e'} {dst : Memref sig .tc sp sh e} (hN : dst.view.dmaCredit = N) {hs : src.view.WordExact} {hd : dst.view.WordExact} {kk : PUnit → KProg F α}
    (h : iprop(R ∗ base m ρ K ∗ ow c O ∗ atPos ER (dCell c f k) (0 + 1) ∅ 0 ∗ copyPay m ρ c f k) ⊢ WP c (kk ⟨⟩) Q) :
    iprop(R ∗ base m ρ K ∗ ow c O ∗ cred (tallyAt (dCell c f k) () N) ∗ atPos ER (dCell c f k) 0 ∅ 0) ⊢ WP c (Prog.op (.waitDma2 sem src dst hs hd) kk) Q := by
  subst hS
  unfold ow base at h ⊢
  rw [← hN]
  iintro ⟨HR, #Hb, ⟨%W, HO⟩, Hc, Hat⟩
  ihave ⟨Hrec, Hlev⟩ := Hb
  ihave #HI := (inv_copy m ρ K c f k) $$ Hrec
  iapply (Rounds.wp_wait_rest_token 𝒱₀ ER (sched m ρ) (c : Thread nD τ) none (κ := K (dKey c f k))
      (wpE_waitDma2_eq 𝒱₀ (c : Thread nD τ) none Set.univ) (Set.mem_univ _) () (O := O) (W := W) (R := 0) (m := 0) (T := ∅)
      (by rw [Nat.zero_add, expect_copy, hN])) $$ [Hc HO Hat]
  · isplitr; · iexact HI
    isplitl [Hc]; · iexact Hc
    isplitl [HO]; · iexact HO
    isplitr; · iapply (mayWait c (.dma (dsem f k)) hn hO); iexact Hlev
    iexact Hat
  iintro ⟨HO, Hat, -, Hpay⟩
  ihave Hp := (Entails.of_eq (rest_copy m ρ c f k hf hk)) $$ Hpay
  iapply h
  isplitl [HR]; · iexact HR
  isplitr; · iexact Hb
  isplitl [HO]; · iexists _; iexact HO
  isplitl [Hat]; · iexact Hat
  iexact Hp

/-! ## Sending a chunk -/

theorem credit_oChunk (off inb) : (oChunk off inb).view.dmaCredit = N := rfl
theorem credit_sChunk (off inb) : (sChunk off inb).view.dmaCredit = N := rfl

/-- A chunk held, as a copy names it. -/
theorem sChunk_pts (c : Dev nD) (lo : ℕ) (inb : ∀ b, (![lo, 0] : Fin 2 → ℕ) b + S32x512.size b ≤ S512x512.size b) (f : (cc0_scratch0 : Ref sig .tc).ty.Contents (Elt F)) :
    ((sChunk ![lo, 0] inb).view.loc (c : Thread nD τ) ↦[(sChunk ![lo, 0] inb).view.set]{fullShare} f : sProp 𝕄) = sBand c lo 32 f := by
  rw [sChunk_set]; rfl
theorem oChunk_pts (c : Dev nD) (lo : ℕ) (inb : ∀ b, (![lo, 0] : Fin 2 → ℕ) b + S32x512.size b ≤ S2048x512.size b) (f : (cc0_stg1_0 : Ref sig .tc).ty.Contents (Elt F)) :
    ((oChunk ![lo, 0] inb).view.loc (c : Thread nD τ) ↦[(oChunk ![lo, 0] inb).view.set]{fullShare} f : sProp 𝕄) = oBand c lo 32 f := by
  rw [oChunk_set]; rfl

/-- A copy of a chunk to device `n`, onto `c`'s semaphore of family `f₁` and `n`'s of family `f₂`. -/
theorem wp_copySend {m ρ K} {c n : Dev nD} {α : Type} {R : sProp 𝕄} {Q : α → sProp 𝕄} (f₁ f₂ k : ℕ) (hf₁ : f₁ < 4) (hf₂ : f₂ < 4) (hk : k < 16)
    {sM' dM : Memref sig .tc .vmem S32x512 .f32} {fs : Buf (Elt F) (sM'.view.loc (c : Thread nD τ))} {fd : Buf (Elt F) (dM.view.loc (n : Thread nD τ))}
    (hN : dM.view.dmaCredit = N) {O₁ : CellTallies nD τ sig Unit} (O : CellTallies nD τ sig Unit) (hO : O₁ = O + tallyAt (dCell n f₂ k) () N)
    (hp₁ : (sM'.view.loc (c : Thread nD τ) ↦[sM'.view.set]{fullShare} fs) ⊢ copyPay m ρ c f₁ k)
    (hp₂ : (dM.view.loc (n : Thread nD τ) ↦[dM.view.set]{fullShare} (dM.view.write (Elt F) fd (sM'.view.read (Elt F) fs) Finset.univ)) ⊢ copyPay m ρ n f₂ k)
    {hsc : (dM : Memref sig (Dev.tc n : Thread nD τ).2.kind .vmem S32x512 .f32).view.ref.isScScratch = false} {hsrc hdst}
    {hsem : DmaTarget.Typed .vmem (.dma (dsem f₂ k)) (.remote (Dev.tc n : Thread nD τ) dM (.dma (dsem f₁ k)) hsc)} {kk : PUnit → KProg F α}
    (h : iprop(R ∗ base m ρ K ∗ ow c O ∗ cred (tallyAt (dCell c f₁ k) () N)) ⊢ WP c (kk ⟨⟩) Q) :
    iprop(R ∗ base m ρ K ∗ ow c O₁ ∗ (sM'.view.loc (c : Thread nD τ) ↦[sM'.view.set]{fullShare} fs) ∗ (dM.view.loc (n : Thread nD τ) ↦[dM.view.set]{fullShare} fd)
        ∗ dutyTok ER (dCell c f₁ k) 0 false ∗ dutyTok ER (dCell n f₂ k) 0 false)
      ⊢ WP c (Prog.op (.enqueueDma sM' (.remote (Dev.tc n : Thread nD τ) dM (.dma (dsem f₁ k)) hsc) (.dma (dsem f₂ k)) hsrc hdst hsem) kk) Q := by
  unfold ow base at h ⊢
  iintro ⟨HR, #Hb, ⟨%W, HO⟩, Hs, Hd, Ht0, Ht1⟩
  ihave ⟨Hrec, Hlev⟩ := Hb
  ihave #HI0 := (inv_copy m ρ K c f₁ k) $$ Hrec
  ihave #HI1 := (inv_copy m ρ K n f₂ k) $$ Hrec
  ihave #Hr0 := (reached_copy m ρ K c f₁ k) $$ Hrec
  ihave #Hr1 := (reached_copy m ρ K n f₂ k) $$ Hrec
  iapply (Rounds.wp_send_pointsTo 𝒱₀ ER (sched m ρ) (c : Thread nD τ) none (κ₁ := K (dKey c f₁ k)) (κ₂ := K (dKey n f₂ k))
      (r₁ := 0) (r₂ := 0) (d₁ := false) (d₂ := false) (fd := fd) (by rw [duties_copy]; exact Finset.mem_singleton_self _)
      (by rw [duties_copy]; exact Finset.mem_singleton_self _) () () N (show dM.view.amount (.dma (dsem f₂ k)) = N from hN) (amount_copy m ρ c f₁ k false) (amount_copy m ρ n f₂ k false)
      O hO (W := W) (by rw [payload_copy m ρ c f₁ k hf₁ hk]; exact hp₁) (by rw [payload_copy m ρ n f₂ k hf₂ hk]; exact hp₂)) $$ [Hs Hd HO Ht0 Ht1]
  · isplitr; · iexact HI0
    isplitr; · iexact HI1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply h
  isplitl [HR]; · iexact HR
  isplitr; · iexact Hb
  isplitl [HO]; · iexists _; iexact HO
  iexact Hc

/-! ## Filling the send buffer -/

/-- What chunk `k`'s first copy needs besides what is sent: the rows it lands in, and the duties it pays. -/
def firstNeeds (c : Dev nD) (k : ℕ) : sProp 𝕄 :=
  iprop((∃ f, oBand (xp c) (near (xp c) + 32 * k) 32 f) ∗ dutyTok ER (dCell c 0 k) 0 false ∗ dutyTok ER (dCell (xp c) 1 k) 0 false)
/-- Chunk `k`, not yet filled, with what its first copy needs. -/
def firstReady (c : Dev nD) (k : ℕ) : sProp 𝕄 := iprop((∃ f, sBand c (32 * k) 32 f) ∗ firstNeeds c k)
/-- Chunk `k` sent. -/
def firstSent (c : Dev nD) (k : ℕ) : sProp 𝕄 := cred (tallyAt (dCell c 0 k) () N)

/-- Chunks below `n` are on their way. -/
def Sending (c : Dev nD) (n : ℕ) : sProp 𝕄 :=
  iprop(base m ρ K ∗ xPts m ρ c ∗ ow c (OX c n + OY c 0) ∗ bigSep (Finset.Ico n 16) (firstReady c) ∗ bigSep (Finset.range n) (firstSent c))

/-- `f` has chunk `k` of the send buffer filled, if the device's first coordinate is below `a`. -/
def Filled (c : Dev nD) (k a : ℕ) (f : (cc0_scratch0 : Ref sig .tc).ty.Contents (Elt F)) : Prop :=
  xc c < a → ∀ i : S512x512.Idx, i ∈ (band (32 * k) 32 : Finset S512x512.Idx) → f i = sendAt m ρ c i

/-- Chunk `k` is held, and filled if the device's first coordinate is below `a`. -/
def Filling (c : Dev nD) (k a : ℕ) : sProp 𝕄 :=
  iprop(base m ρ K ∗ xPts m ρ c ∗ ow c (OX c k + OY c 0) ∗ (∃ f, ⌜Filled m ρ c k a f⌝ ∗ sBand c (32 * k) 32 f) ∗ firstNeeds c k
    ∗ bigSep (Finset.Ico (k + 1) 16) (firstReady c) ∗ bigSep (Finset.range k) (firstSent c))

/-- The next chunk is there to be filled. -/
theorem next_chunk (c : Dev nD) {k : ℕ} (hk : k < 16) : Sending m ρ K c k ⊢ Filling m ρ K c k 0 := by
  unfold Sending Filling
  rw [bigSep_Ico_succ_bot hk]
  unfold firstReady
  iintro ⟨Hb, Hx, Ho, ⟨⟨⟨%f, Hs⟩, Hn⟩, Hrest⟩, Hd⟩
  isplitl [Hb]; · iexact Hb
  isplitl [Hx]; · iexact Hx
  isplitl [Ho]; · iexact Ho
  isplitl [Hs]
  · iexists f; isplitr; · (ipureintro; intro h; exact absurd h (Nat.not_lt_zero _))
    iexact Hs
  isplitl [Hn]; · iexact Hn
  isplitl [Hrest]; · iexact Hrest
  iexact Hd

variable {m ρ K}

/-- The same under a frame, for any goal. -/
theorem open_chunk {c : Dev nD} {k : ℕ} (hk : k < 16) {R P : sProp 𝕄} (h : iprop(R ∗ Filling m ρ K c k 0) ⊢ P) : iprop(R ∗ Sending m ρ K c k) ⊢ P := by
  refine BIBase.Entails.trans ?_ h
  iintro ⟨HR, H⟩
  isplitl [HR]; · iexact HR
  iapply (next_chunk m ρ K c hk); iexact H

/-- Under the condition that the device's first coordinate is `a`, chunk `k` is read from the argument and stored. -/
theorem wp_fill {c : Dev nD} {α : Type} {R : sProp 𝕄} {Q : α → sProp 𝕄} (k a : ℕ) {cnd : Prop} {_ : Decidable cnd} (hc : cnd ↔ xc c = a)
    {off : Fin 2 → ℕ} (h0 : off 0 = 512 * yc c + 32 * k) (h1 : off 1 = 512 * (1 - a))
    {inb : cnd → ∀ b, off b + S32x512.size b ≤ S1024x1024.size b} {inb' : ∀ b, (![32 * k, 0] : Fin 2 → ℕ) b + S32x512.size b ≤ S512x512.size b}
    {pay : Vec F S32x512 .f32 → FVec F S32x512 .f32} (hpay : ∀ v, pay v = v) {hl : ∀ hc : cnd, xM.view.LoadsAt (Rect.unit (s := S1024x1024) off S32x512.size (inb hc)).toLoadRect} {hl' hx hm} {kk : KProg F α}
    (h : iprop(R ∗ Filling m ρ K c k (a + 1)) ⊢ WP c kk Q) :
    iprop(R ∗ Filling m ρ K c k a) ⊢ WP c (if hc : cnd then
      Prog.op (.load xM (Rect.unit (s := S1024x1024) off S32x512.size (inb hc)).toLoadRect (hl hc)) fun v =>
      Prog.op (.load sM (Rect.unit (s := S512x512) ![32 * k, 0] S32x512.size inb').toLoadRect hl') fun _ =>
      Prog.op (.store sM (Rect.unit (s := S512x512) ![32 * k, 0] S32x512.size inb') (pay v) Finset.univ hx hm) fun _ => kk else kk) Q := by
  by_cases hcc : cnd
  · have ha := hc.mp hcc
    rw [dif_pos hcc]
    unfold Filling xPts sBand at h ⊢
    iintro ⟨HR, Hb, Hx, Ho, ⟨%f, -, Hs⟩, Hrest⟩
    iapply (wp_load_rect 𝒱₀ (c : Thread nD τ) none Set.univ (m := xM) (r := Rect.unit (s := S1024x1024) off S32x512.size (inb hcc)) (Finset.subset_univ _)) $$ Hx; iintro Hx
    iapply (wp_load_rect 𝒱₀ (c : Thread nD τ) none Set.univ (m := sM) (r := Rect.unit (s := S512x512) ![32 * k, 0] S32x512.size inb') (sWin_set _ _).subset) $$ Hs; iintro Hs
    iapply (wp_store 𝒱₀ (c : Thread nD τ) none Set.univ (m := sM) (r := Rect.unit (s := S512x512) ![32 * k, 0] S32x512.size inb') (Mk := Finset.univ) (sWin_set _ _).subset) $$ Hs; iintro Hs
    iapply h
    isplitl [HR]; · iexact HR
    isplitl [Hb]; · iexact Hb
    isplitl [Hx]; · iexact Hx
    isplitl [Ho]; · iexact Ho
    isplitl [Hs]
    · iexists _; isplitr [Hs]; rotate_left; · iexact Hs
      ipureintro
      intro _ i hi
      rw [hpay]
      exact staged m ρ c k off h0 (ha ▸ h1) (inb hcc) inb' f i hi
    iexact Hrest
  · rw [dif_neg hcc]
    refine BIBase.Entails.trans ?_ h
    unfold Filling
    iintro ⟨HR, Hb, Hx, Ho, ⟨%f, %hf, Hs⟩, Hrest⟩
    isplitl [HR]; · iexact HR
    isplitl [Hb]; · iexact Hb
    isplitl [Hx]; · iexact Hx
    isplitl [Ho]; · iexact Ho
    isplitl [Hs]
    · iexists f; isplitr; · (ipureintro; intro hlt; exact hf (lt_of_le_of_ne (Nat.le_of_lt_succ hlt) fun e => hcc (hc.mpr e)))
      iexact Hs
    iexact Hrest

/-- The filled chunk `k` is sent over the first axis. -/
theorem wp_send_first {c : Dev nD} {α : Type} {R : sProp 𝕄} {Q : α → sProp 𝕄} (k : ℕ) (hk : k < 16) {n : Dev nD} (hn : n = xp c)
    {off : Fin 2 → ℕ} (hoff : off = ![near (xp c) + 32 * k, 0]) {inb : ∀ b, off b + S32x512.size b ≤ S2048x512.size b}
    {inb' : ∀ b, (![32 * k, 0] : Fin 2 → ℕ) b + S32x512.size b ≤ S512x512.size b} {sS sR : DmaSem sig} (hS : sS = dsem 0 k) (hR : sR = dsem 1 k)
    {hsc hsrc hdst hsem} {kk : PUnit → KProg F α} (h : iprop(R ∗ Sending m ρ K c (k + 1)) ⊢ WP c (kk ⟨⟩) Q) :
    iprop(R ∗ Filling m ρ K c k 2) ⊢ WP c (Prog.op (.enqueueDma (sChunk ![32 * k, 0] inb')
      (.remote (n : Thread nD τ) (oChunk off inb) (.dma sS) hsc) (.dma sR) hsrc hdst hsem) kk) Q := by
  subst hn hoff hS hR
  unfold Filling firstNeeds
  iintro ⟨HR, Hb, Hx, HO, ⟨%f, %hf, Hs⟩, ⟨⟨%fd, Hd⟩, Ht0, Ht1⟩, Hrest, Hdone⟩
  iapply (wp_copySend (m := m) (ρ := ρ) (K := K) (R := iprop(R ∗ xPts m ρ c ∗ bigSep (Finset.Ico (k + 1) 16) (firstReady c) ∗ bigSep (Finset.range k) (firstSent c)))
    0 1 k (by decide) (by decide) hk (sM' := sChunk ![32 * k, 0] inb') (dM := oChunk ![near (xp c) + 32 * k, 0] inb) (fs := sendAt m ρ c) (fd := fd)
    (credit_oChunk _ _) (O₁ := OX c k + OY c 0) (OX c (k + 1) + OY c 0) (by rw [OX_step c hk]; exact add_right_comm _ _ _) ?_ ?_ (BIBase.Entails.trans ?_ h))
  · exact BIBase.Entails.of_eq (sChunk_pts c _ _ _)
  · exact BIBase.Entails.of_eq ((pointsTo_congr fun i hi => copied_near m ρ c k hk inb' inb fd i hi).trans (oChunk_pts (xp c) _ _ _))
  · unfold Sending firstSent
    rw [bigSep_range_succ]
    iintro ⟨⟨HR, Hx, Hrest, Hdone⟩, Hb, HO, Hc⟩
    isplitl [HR]; · iexact HR
    isplitl [Hb]; · iexact Hb
    isplitl [Hx]; · iexact Hx
    isplitl [HO]; · iexact HO
    isplitl [Hrest]; · iexact Hrest
    isplitl [Hc]; · iexact Hc
    iexact Hdone
  · isplitl [HR Hx Hrest Hdone]
    · isplitl [HR]; · iexact HR
      isplitl [Hx]; · iexact Hx
      isplitl [Hrest] <;> iassumption
    isplitl [Hb]; · iexact Hb
    isplitl [HO]; · iexact HO
    isplitl [Hs]
    · rw [sChunk_pts]
      iapply (show sBand c (32 * k) 32 f ⊢ sBand c (32 * k) 32 (sendAt m ρ c) from
        BIBase.Entails.of_eq (pointsTo_congr (hf ((xc_lt c).trans_le le_rfl))))
      iexact Hs
    isplitl [Hd]; · rw [oChunk_pts]; iexact Hd
    isplitl [Ht0] <;> iassumption

/-! ## The half that stays -/

/-- The half of the result that stays is held, and is in place if the device's first coordinate is below `a`. -/
def Keeping (m : (ℓ : Loc nD τ sig) → Buf (Elt F) ℓ) (ρ : Dev nD → PrngReg) (c : Dev nD) (a : ℕ) : sProp 𝕄 :=
  iprop(xPts m ρ c ∗ ∃ f, ⌜xc c < a → ∀ i : S2048x512.Idx, i ∈ (band (1024 * xc c) 1024 : Finset S2048x512.Idx) → f i = outAt m ρ c i⌝ ∗ oBand c (1024 * xc c) 1024 f)

/-- Under the condition that the device's first coordinate is `a`, that half is read from the argument and stored. -/
theorem wp_keep {c : Dev nD} {α : Type} {R : sProp 𝕄} {Q : α → sProp 𝕄} (a : ℕ) {cnd : Prop} {_ : Decidable cnd} (hc : cnd ↔ xc c = a)
    {inb : ∀ b, (![0, 512 * a] : Fin 2 → ℕ) b + S1024x512.size b ≤ S1024x1024.size b}
    {inb' : ∀ b, (![1024 * a, 0] : Fin 2 → ℕ) b + S1024x512.size b ≤ S2048x512.size b}
    {pay : Vec F S1024x512 .f32 → FVec F S1024x512 .f32} (hpay : ∀ v, pay v = v) {hl hl' hx hm} {kk : KProg F α}
    (h : iprop(R ∗ Keeping m ρ c (a + 1)) ⊢ WP c kk Q) :
    iprop(R ∗ Keeping m ρ c a) ⊢ WP c (if hc : cnd then
      Prog.op (.load xM (Rect.unit (s := S1024x1024) ![0, 512 * a] S1024x512.size inb).toLoadRect hl) fun v =>
      Prog.op (.load oM (Rect.unit (s := S2048x512) ![1024 * a, 0] S1024x512.size inb').toLoadRect hl') fun _ =>
      Prog.op (.store oM (Rect.unit (s := S2048x512) ![1024 * a, 0] S1024x512.size inb') (pay v) Finset.univ hx hm) fun _ => kk else kk) Q := by
  by_cases hcc : cnd
  · have ha := hc.mp hcc
    rw [dif_pos hcc]
    unfold Keeping xPts oBand at h ⊢
    rw [ha] at h ⊢
    iintro ⟨HR, Hx, ⟨%f, -, Hs⟩⟩
    iapply (wp_load_rect 𝒱₀ (c : Thread nD τ) none Set.univ (m := xM) (r := Rect.unit (s := S1024x1024) ![0, 512 * a] S1024x512.size inb) (Finset.subset_univ _)) $$ Hx; iintro Hx
    iapply (wp_load_rect 𝒱₀ (c : Thread nD τ) none Set.univ (m := oM) (r := Rect.unit (s := S2048x512) ![1024 * a, 0] S1024x512.size inb') (oWin_set _ _).subset) $$ Hs; iintro Hs
    iapply (wp_store 𝒱₀ (c : Thread nD τ) none Set.univ (m := oM) (r := Rect.unit (s := S2048x512) ![1024 * a, 0] S1024x512.size inb') (Mk := Finset.univ) (oWin_set _ _).subset) $$ Hs; iintro Hs
    iapply h
    isplitl [HR]; · iexact HR
    isplitl [Hx]; · iexact Hx
    iexists _; isplitr [Hs]; rotate_left; · iexact Hs
    ipureintro
    intro _ i hi
    rw [hpay]
    exact kept m ρ c a ha inb inb' f i hi
  · rw [dif_neg hcc]
    refine BIBase.Entails.trans ?_ h
    unfold Keeping
    iintro ⟨HR, Hx, ⟨%f, %hf, Hs⟩⟩
    isplitl [HR]; · iexact HR
    isplitl [Hx]; · iexact Hx
    iexists f; isplitr; · (ipureintro; intro hlt; exact hf (lt_of_le_of_ne (Nat.le_of_lt_succ hlt) fun e => hcc (hc.mpr e)))
    iexact Hs

/-! ## Sending on -/

/-- What chunk `k`'s second copy needs besides what is sent. -/
def secondNeeds (c : Dev nD) (k : ℕ) : sProp 𝕄 :=
  iprop((∃ f, oBand (yp c) (near c + 32 * k) 32 f) ∗ dutyTok ER (dCell c 2 k) 0 false ∗ dutyTok ER (dCell (yp c) 3 k) 0 false)
/-- The wait for chunk `k`'s first copy, and what its second copy needs. -/
def secondReady (c : Dev nD) (k : ℕ) : sProp 𝕄 :=
  iprop((cred (tallyAt (dCell c 1 k) () N) ∗ atPos ER (dCell c 1 k) 0 ∅ 0) ∗ secondNeeds c k)
/-- Chunk `k` sent on. -/
def secondSent (c : Dev nD) (k : ℕ) : sProp 𝕄 := iprop(atPos ER (dCell c 1 k) (0 + 1) ∅ 0 ∗ cred (tallyAt (dCell c 2 k) () N))

variable (m ρ K)

/-- Chunks below `n` have come and are on their way on. -/
def Forwarding (c : Dev nD) (n : ℕ) : sProp 𝕄 :=
  iprop(base m ρ K ∗ ow c (OY c n) ∗ bigSep (Finset.Ico n 16) (secondReady c) ∗ bigSep (Finset.range n) (secondSent c))

/-- Chunk `k` has come. -/
def Landed (c : Dev nD) (k : ℕ) : sProp 𝕄 :=
  iprop(base m ρ K ∗ ow c (OY c k) ∗ (atPos ER (dCell c 1 k) (0 + 1) ∅ 0 ∗ copyPay m ρ c 1 k) ∗ secondNeeds c k
    ∗ bigSep (Finset.Ico (k + 1) 16) (secondReady c) ∗ bigSep (Finset.range k) (secondSent c))

variable {m ρ K}

/-- The wait for the first copy of chunk `k` from across the first axis. -/
theorem wp_wait_first {c : Dev nD} {α : Type} {R : sProp 𝕄} {Q : α → sProp 𝕄} (k : ℕ) (hk : k < 16) {sem : DmaSem sig} (hS : sem = dsem 1 k)
    {sh sh' : Shape} {e e' : EltTy} {sp sp' : Space} {src : Memref sig .tc sp' sh' e'} {dst : Memref sig .tc sp sh e} (hN : dst.view.dmaCredit = N)
    {hs : src.view.WordExact} {hd : dst.view.WordExact} {kk : PUnit → KProg F α} (h : iprop(R ∗ Landed m ρ K c k) ⊢ WP c (kk ⟨⟩) Q) :
    iprop(R ∗ Forwarding m ρ K c k) ⊢ WP c (Prog.op (.waitDma2 sem src dst hs hd) kk) Q := by
  unfold Forwarding
  rw [bigSep_Ico_succ_bot hk]
  unfold secondReady
  iintro ⟨HR, Hb, HO, ⟨⟨⟨Hc, Hat⟩, Hn⟩, Hrest⟩, Hdone⟩
  iapply (wp_copyWait (m := m) (ρ := ρ) (K := K) (R := iprop(R ∗ secondNeeds c k ∗ bigSep (Finset.Ico (k + 1) 16) (secondReady c) ∗ bigSep (Finset.range k) (secondSent c)))
    1 k (by decide) hk (above_OY c k) (by rw [lv_copy c 1 k (by decide)]; decide) hS hN (BIBase.Entails.trans ?_ h))
  · unfold Landed secondReady
    iintro ⟨⟨HR, Hn, Hrest, Hdone⟩, Hb, HO, Hat, Hp⟩
    isplitl [HR]; · iexact HR
    isplitl [Hb]; · iexact Hb
    isplitl [HO]; · iexact HO
    isplitl [Hat Hp]; · isplitl [Hat] <;> iassumption
    isplitl [Hn]; · iexact Hn
    isplitl [Hrest] <;> iassumption
  · unfold secondReady
    isplitl [HR Hn Hrest Hdone]
    · isplitl [HR]; · iexact HR
      isplitl [Hn]; · iexact Hn
      isplitl [Hrest] <;> iassumption
    isplitl [Hb]; · iexact Hb
    isplitl [HO]; · iexact HO
    isplitl [Hc] <;> iassumption

/-- Chunk `k`, come over the first axis, is sent on over the second. -/
theorem wp_send_second {c : Dev nD} {α : Type} {R : sProp 𝕄} {Q : α → sProp 𝕄} (k : ℕ) (hk : k < 16) {n : Dev nD} (hn : n = yp c)
    {off : Fin 2 → ℕ} (hoff : off = ![near c + 32 * k, 0]) {inb : ∀ b, off b + S32x512.size b ≤ S2048x512.size b}
    {sS sR : DmaSem sig} (hS : sS = dsem 2 k) (hR : sR = dsem 3 k)
    {hsc hsrc hdst hsem} {kk : PUnit → KProg F α} (h : iprop(R ∗ Forwarding m ρ K c (k + 1)) ⊢ WP c (kk ⟨⟩) Q) :
    iprop(R ∗ Landed m ρ K c k) ⊢ WP c (Prog.op (.enqueueDma (oChunk off inb)
      (.remote (n : Thread nD τ) (oChunk off inb) (.dma sS) hsc) (.dma sR) hsrc hdst hsem) kk) Q := by
  subst hn hoff hS hR
  unfold Landed secondNeeds
  iintro ⟨HR, Hb, HO, ⟨Hat, Hs⟩, ⟨⟨%fd, Hd⟩, Ht0, Ht1⟩, Hrest, Hdone⟩
  iapply (wp_copySend (m := m) (ρ := ρ) (K := K) (R := iprop(R ∗ atPos ER (dCell c 1 k) (0 + 1) ∅ 0 ∗ bigSep (Finset.Ico (k + 1) 16) (secondReady c) ∗ bigSep (Finset.range k) (secondSent c)))
    2 3 k (by decide) (by decide) hk (sM' := oChunk ![near c + 32 * k, 0] inb) (dM := oChunk ![near c + 32 * k, 0] inb) (fs := outAt m ρ c) (fd := fd)
    (credit_oChunk _ _) (O₁ := OY c k) (OY c (k + 1)) (OY_step c hk) ?_ ?_ (BIBase.Entails.trans ?_ h))
  · exact BIBase.Entails.of_eq (oChunk_pts c _ _ _)
  · refine BIBase.Entails.of_eq ((pointsTo_congr fun i hi => copied_far m ρ c k hk inb fd i hi).trans ((oChunk_pts (yp c) _ _ _).trans ?_))
    show _ = oBand (yp c) (far (yp c) + 32 * k) 32 (outAt m ρ (yp c))
    rw [far_yp]
  · unfold Forwarding secondSent
    rw [bigSep_range_succ]
    iintro ⟨⟨HR, Hat, Hrest, Hdone⟩, Hb, HO, Hc⟩
    isplitl [HR]; · iexact HR
    isplitl [Hb]; · iexact Hb
    isplitl [HO]; · iexact HO
    isplitl [Hrest]; · iexact Hrest
    isplitl [Hat Hc]; · isplitl [Hat] <;> iassumption
    iexact Hdone
  · isplitl [HR Hat Hrest Hdone]
    · isplitl [HR]; · iexact HR
      isplitl [Hat]; · iexact Hat
      isplitl [Hrest] <;> iassumption
    isplitl [Hb]; · iexact Hb
    isplitl [HO]; · iexact HO
    isplitl [Hs]
    · rw [oChunk_pts]
      iapply (show copyPay m ρ c 1 k ⊢ oBand c (near c + 32 * k) 32 (outAt m ρ c) from BIBase.Entails.rfl)
      iexact Hs
    isplitl [Hd]; · rw [oChunk_pts]; iexact Hd
    isplitl [Ht0] <;> iassumption

/-! ## The last waits -/

/-- The right to wait on the semaphore of family `f` and chunk `k`, and what is held after. -/
def awaits (c : Dev nD) (f k : ℕ) : sProp 𝕄 := iprop(cred (tallyAt (dCell c f k) () N) ∗ atPos ER (dCell c f k) 0 ∅ 0)
def awaited (m : (ℓ : Loc nD τ sig) → Buf (Elt F) ℓ) (ρ : Dev nD → PrngReg) (c : Dev nD) (f k : ℕ) : sProp 𝕄 :=
  iprop(atPos ER (dCell c f k) (0 + 1) ∅ 0 ∗ copyPay m ρ c f k)
/-- The first `n` waits on family `f` are done. -/
def Family (m : (ℓ : Loc nD τ sig) → Buf (Elt F) ℓ) (ρ : Dev nD → PrngReg) (c : Dev nD) (f n : ℕ) : sProp 𝕄 :=
  iprop(bigSep (Finset.Ico n 16) (awaits c f) ∗ bigSep (Finset.range n) (awaited m ρ c f))

/-- Nothing is owed; `n f` of the waits on family `f` are done. -/
def Draining (m : (ℓ : Loc nD τ sig) → Buf (Elt F) ℓ) (ρ : Dev nD → PrngReg) (K : Key → ℕ) (c : Dev nD) (a b d : ℕ) : sProp 𝕄 :=
  iprop(base m ρ K ∗ ow c 0 ∗ Family m ρ c 0 a ∗ Family m ρ c 2 b ∗ Family m ρ c 3 d)

/-- The next wait on family `f`, nothing owed. -/
theorem wp_wait_family {c : Dev nD} {α : Type} {R : sProp 𝕄} {Q : α → sProp 𝕄} (f k : ℕ) (hf : f < 4) (hk : k < 16) {sem : DmaSem sig} (hS : sem = dsem f k)
    {sh sh' : Shape} {e e' : EltTy} {sp sp' : Space} {src : Memref sig .tc sp' sh' e'} {dst : Memref sig .tc sp sh e} (hN : dst.view.dmaCredit = N)
    {hs : src.view.WordExact} {hd : dst.view.WordExact} {kk : PUnit → KProg F α}
    (h : iprop(R ∗ base m ρ K ∗ ow c 0 ∗ Family m ρ c f (k + 1)) ⊢ WP c (kk ⟨⟩) Q) :
    iprop(R ∗ base m ρ K ∗ ow c 0 ∗ Family m ρ c f k) ⊢ WP c (Prog.op (.waitDma2 sem src dst hs hd) kk) Q := by
  unfold Family
  rw [bigSep_Ico_succ_bot hk]
  unfold awaits
  iintro ⟨HR, Hb, HO, ⟨⟨Hc, Hat⟩, Hrest⟩, Hdone⟩
  iapply (wp_copyWait (m := m) (ρ := ρ) (K := K) (R := iprop(R ∗ bigSep (Finset.Ico (k + 1) 16) (awaits c f) ∗ bigSep (Finset.range k) (awaited m ρ c f)))
    f k hf hk (above_zero _) le_rfl hS hN (BIBase.Entails.trans ?_ h))
  · unfold Family awaited
    rw [bigSep_range_succ]
    iintro ⟨⟨HR, Hrest, Hdone⟩, Hb, HO, Hat, Hp⟩
    isplitl [HR]; · iexact HR
    isplitl [Hb]; · iexact Hb
    isplitl [HO]; · iexact HO
    isplitl [Hrest]; · iexact Hrest
    isplitl [Hat Hp]; · isplitl [Hat] <;> iassumption
    iexact Hdone
  · unfold awaits
    isplitl [HR Hrest Hdone]
    · isplitl [HR]; · iexact HR
      isplitl [Hrest] <;> iassumption
    isplitl [Hb]; · iexact Hb
    isplitl [HO]; · iexact HO
    isplitl [Hc] <;> iassumption

/-- The wait for the send buffer's chunk `k` to have left. -/
theorem wp_drain0 {c : Dev nD} {α : Type} {R : sProp 𝕄} {Q : α → sProp 𝕄} (k : ℕ) (hk : k < 16) {sem : DmaSem sig} (hS : sem = dsem 0 k)
    {sh sh' : Shape} {e e' : EltTy} {sp sp' : Space} {src : Memref sig .tc sp' sh' e'} {dst : Memref sig .tc sp sh e} (hN : dst.view.dmaCredit = N)
    {hs : src.view.WordExact} {hd : dst.view.WordExact} {kk : PUnit → KProg F α} {b d : ℕ}
    (h : iprop(R ∗ Draining m ρ K c (k + 1) b d) ⊢ WP c (kk ⟨⟩) Q) :
    iprop(R ∗ Draining m ρ K c k b d) ⊢ WP c (Prog.op (.waitDma2 sem src dst hs hd) kk) Q := by
  unfold Draining at h ⊢
  iintro ⟨HR, Hb, HO, H0, H2, H3⟩
  iapply (wp_wait_family (m := m) (ρ := ρ) (K := K) (R := iprop(R ∗ Family m ρ c 2 b ∗ Family m ρ c 3 d)) 0 k (by decide) hk hS hN (BIBase.Entails.trans ?_ h))
  · iintro ⟨⟨HR, H2, H3⟩, Hb, HO, H0⟩
    isplitl [HR]; · iexact HR
    isplitl [Hb]; · iexact Hb
    isplitl [HO]; · iexact HO
    isplitl [H0]; · iexact H0
    isplitl [H2] <;> iassumption
  · isplitl [HR H2 H3]
    · isplitl [HR]; · iexact HR
      isplitl [H2] <;> iassumption
    isplitl [Hb]; · iexact Hb
    isplitl [HO] <;> iassumption
/-- The wait for the second copy of chunk `k` to have left. -/
theorem wp_drain2 {c : Dev nD} {α : Type} {R : sProp 𝕄} {Q : α → sProp 𝕄} (k : ℕ) (hk : k < 16) {sem : DmaSem sig} (hS : sem = dsem 2 k)
    {sh sh' : Shape} {e e' : EltTy} {sp sp' : Space} {src : Memref sig .tc sp' sh' e'} {dst : Memref sig .tc sp sh e} (hN : dst.view.dmaCredit = N)
    {hs : src.view.WordExact} {hd : dst.view.WordExact} {kk : PUnit → KProg F α} {a d : ℕ}
    (h : iprop(R ∗ Draining m ρ K c a (k + 1) d) ⊢ WP c (kk ⟨⟩) Q) :
    iprop(R ∗ Draining m ρ K c a k d) ⊢ WP c (Prog.op (.waitDma2 sem src dst hs hd) kk) Q := by
  unfold Draining at h ⊢
  iintro ⟨HR, Hb, HO, H0, H2, H3⟩
  iapply (wp_wait_family (m := m) (ρ := ρ) (K := K) (R := iprop(R ∗ Family m ρ c 0 a ∗ Family m ρ c 3 d)) 2 k (by decide) hk hS hN (BIBase.Entails.trans ?_ h))
  · iintro ⟨⟨HR, H0, H3⟩, Hb, HO, H2⟩
    isplitl [HR]; · iexact HR
    isplitl [Hb]; · iexact Hb
    isplitl [HO]; · iexact HO
    isplitl [H0]; · iexact H0
    isplitl [H2] <;> iassumption
  · isplitl [HR H0 H3]
    · isplitl [HR]; · iexact HR
      isplitl [H0] <;> iassumption
    isplitl [Hb]; · iexact Hb
    isplitl [HO] <;> iassumption
/-- The wait for the second copy of chunk `k` from across the second axis. -/
theorem wp_drain3 {c : Dev nD} {α : Type} {R : sProp 𝕄} {Q : α → sProp 𝕄} (k : ℕ) (hk : k < 16) {sem : DmaSem sig} (hS : sem = dsem 3 k)
    {sh sh' : Shape} {e e' : EltTy} {sp sp' : Space} {src : Memref sig .tc sp' sh' e'} {dst : Memref sig .tc sp sh e} (hN : dst.view.dmaCredit = N)
    {hs : src.view.WordExact} {hd : dst.view.WordExact} {kk : PUnit → KProg F α} {a b : ℕ}
    (h : iprop(R ∗ Draining m ρ K c a b (k + 1)) ⊢ WP c (kk ⟨⟩) Q) :
    iprop(R ∗ Draining m ρ K c a b k) ⊢ WP c (Prog.op (.waitDma2 sem src dst hs hd) kk) Q := by
  unfold Draining at h ⊢
  iintro ⟨HR, Hb, HO, H0, H2, H3⟩
  iapply (wp_wait_family (m := m) (ρ := ρ) (K := K) (R := iprop(R ∗ Family m ρ c 0 a ∗ Family m ρ c 2 b)) 3 k (by decide) hk hS hN (BIBase.Entails.trans ?_ h))
  · iintro ⟨⟨HR, H0, H2⟩, Hb, HO, H3⟩
    isplitl [HR]; · iexact HR
    isplitl [Hb]; · iexact Hb
    isplitl [HO]; · iexact HO
    isplitl [H0]; · iexact H0
    isplitl [H2] <;> iassumption
  · isplitl [HR H0 H2]
    · isplitl [HR]; · iexact HR
      isplitl [H0] <;> iassumption
    isplitl [Hb]; · iexact Hb
    isplitl [HO] <;> iassumption

end Cert.Exchange

end
-- ==== Proof.Body.lean ====
/-
# The kernel's parts

The kernel's text is cut in parts. Each theorem here says in which state a part of it starts and in which it ends.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the kernel computes of its device -/

/-- A device that the kernel names by its coordinates is the one across the first axis, -/
theorem dev_xp {c : Dev nD} {d : ℕ} {hd : d < nD} (h : d = (4 * ((c.val / 4) % 2) + (c.val % 4) + 8) - 8 * (c.val / 8)) : (⟨d, hd⟩ : Dev nD) = xp c := by
  subst h; revert c; decide
/-- or across the second. -/
theorem dev_yp {c : Dev nD} {d : ℕ} {hd : d < nD} (h : d = (8 * (c.val / 8) + (c.val % 4) + 4) - 4 * ((c.val / 4) % 2)) : (⟨d, hd⟩ : Dev nD) = yp c := by
  subst h; revert c; decide

/-- The rows of a first copy, at its receiver, -/
theorem off_first (c : Dev nD) (k : ℕ) (hk : k < 16) : k0_off3 c (BitVec.ofNat 32 (32 * k)) = ![near (xp c) + 32 * k, 0] := by
  rw [near_xp]; exact k0_off3_eq c ⟨k, hk⟩
/-- and of a second copy. -/
theorem off_second (c : Dev nD) (k : ℕ) (hk : k < 16) : k0_off34 c (BitVec.ofNat 32 (32 * k)) = ![near c + 32 * k, 0] := by
  refine (k0_off34_eq c ⟨k, hk⟩).trans ?_
  have h : (512 * ((c.val / 4) % 2) + 32 * k + 1024) - 1024 * (c.val / 8) = near c + 32 * k := by
    have hx := xc_lt c
    unfold near; unfold xc at hx ⊢; unfold yc; omega
  rw [← h]

/-- The two conditions are on the device's first coordinate. -/
theorem cond_zero (c : Dev nD) : k0_cond1 c = 1#1 ↔ xc c = 0 := by revert c; decide
theorem cond_one (c : Dev nD) : k0_cond2 c = 1#1 ↔ xc c = 1 := by revert c; decide

/-- The first coordinate as the kernel's text has it. -/
abbrev xWord (c : Dev nD) : BitVec 32 := Scalar.remsi (Scalar.divsi (Dev.word c) 8#32) 2#32
theorem word_zero (c : Dev nD) : Scalar.cmpi .ne (Scalar.extui (Scalar.cmpi .eq (xWord c) 0#32) : BitVec 32) 0#32 = 1#1 ↔ xc c = 0 := by revert c; decide
theorem word_one (c : Dev nD) : Scalar.cmpi .ne (Scalar.extui (Scalar.cmpi .eq (xWord c) 1#32) : BitVec 32) 0#32 = 1#1 ↔ xc c = 1 := by revert c; decide

/-- What a chunk goes through between its load and its store leaves it as it is. -/
theorem cast_cast32 (v : Vec F S32x512 .f32) : k0_pay1 v = v := (shapeCast_self _ _).trans (shapeCast_self _ _)
theorem cast1024 (v : Vec F S1024x512 .f32) : k0_pay33 v = v := shapeCast_self _ _

/-- A part of the kernel on the kernel's buffers. -/
abbrev onBufs {β : Type 1} (p : ∀ (a0 : Memref sig .tc .vmem S1024x1024 .f32) (_ : a0.IsWhole) (a1 : Memref sig .tc .vmem S2048x512 .f32) (_ : a1.IsWhole)
    (a2 : Memref sig .tc .vmem S512x512 .f32) (_ : a2.IsWhole) (_ _ _ _ : DmaSems sig S16), β) : β :=
  p xM (Memref.isWhole_whole _) oM (Memref.isWhole_whole _) sM (Memref.isWhole_whole _) cc0_scratch1 cc0_scratch2 cc0_scratch3 cc0_scratch4

end Cert.Exchange

end
-- ==== Proof.Barrier.lean ====
/-
# The barrier

Part 1 of the kernel: a device signals its two neighbours, handing each the rows of its result that it will write, and
waits for theirs.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-- What device `c` needs for the barrier: the right to its wait, and the two duties it pays by its signals. -/
def barStart (c : Dev nD) : sProp 𝕄 :=
  iprop((cred (tallyAt (barCell c) () 2) ∗ atPos ER (barCell c) 0 ∅ 0) ∗ dutyTok ER (barCell (xp c)) 0 false ∗ dutyTok ER (barCell (yp c)) 0 true)

/-- A signal to a barrier pays one of its duties and hands over what goes with it. -/
theorem wp_signal {m ρ K} {c n : Dev nD} {α : Type} {R : sProp 𝕄} {Q : α → sProp 𝕄} {t : Dev nD} (hn : t = n) (d : Bool) {O₁ : CellTallies nD τ sig Unit} (O : CellTallies nD τ sig Unit)
    (hO : O₁ = O + tallyAt (barCell n) () 1) {kk : PUnit → KProg F α} (h : iprop(R ∗ base m ρ K ∗ ow c O) ⊢ WP c (kk ⟨⟩) Q) :
    iprop(R ∗ base m ρ K ∗ ow c O₁ ∗ dutyTok ER (barCell n) 0 d ∗ (sched m ρ).payload (barCell n) 0 d)
      ⊢ WP c (Prog.op (.semSignal (t : Thread nD τ) barS (1#32 : BitVec 32).toNat) kk) Q := by
  subst hn
  unfold ow base at h ⊢
  iintro ⟨HR, #Hb, ⟨%W, HO⟩, Ht, Hp⟩
  ihave ⟨Hrec, Hlev⟩ := Hb
  ihave #HI := (inv_bar m ρ K t) $$ Hrec
  ihave #Hr := (reached_bar m ρ K t) $$ Hrec
  iapply (Rounds.wp_signal 𝒱₀ ER (sched m ρ) (c : Thread nD τ) none (dst := (t : Thread nD τ)) (κ := K (t, none))
      (d := d) (by rw [duties_bar]; exact Finset.mem_univ _) ((amount_bar m ρ t d).trans (by decide)) () O hO) $$ [HO Ht Hp]
  · isplitr; · iexact HI
    isplitl [HO]; · iexact HO
    isplitl [Ht]; · iexact Ht
    isplitl [Hp]; · iexact Hp
    iexact Hr
  iintro HO
  iapply h
  isplitl [HR]; · iexact HR
  isplitr; · iexact Hb
  iexists _; iexact HO

/-- The wait on the own barrier hands over what both signals do. -/
theorem wp_barrier {m ρ K} {c : Dev nD} {α : Type} {R : sProp 𝕄} {Q : α → sProp 𝕄} {O : CellTallies nD τ sig Unit} (hO : Above 1 O) {kk : PUnit → KProg F α}
    (h : iprop(R ∗ base m ρ K ∗ ow c O ∗ atPos ER (barCell c) (0 + 1) ∅ 0 ∗ barPayX c ∗ barPayY c) ⊢ WP c (kk ⟨⟩) Q) :
    iprop(R ∗ base m ρ K ∗ ow c O ∗ cred (tallyAt (barCell c) () 2) ∗ atPos ER (barCell c) 0 ∅ 0) ⊢ WP c (Prog.op (.semWait barS (2#32 : BitVec 32).toNat) kk) Q := by
  unfold ow base at h ⊢
  iintro ⟨HR, #Hb, ⟨%W, HO⟩, Hc, Hat⟩
  ihave ⟨Hrec, Hlev⟩ := Hb
  ihave #HI := (inv_bar m ρ K c) $$ Hrec
  iapply (Rounds.wp_wait_rest_token 𝒱₀ ER (sched m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) (lv_bar c).le hO); iexact Hlev
    iexact Hat
  iintro ⟨HO, Hat, -, Hpay⟩
  ihave ⟨Hx, Hy⟩ := (Entails.of_eq (rest_bar m ρ c)) $$ Hpay
  iapply h
  isplitl [HR]; · iexact HR
  isplitr; · iexact Hb
  isplitl [HO]; · iexists _; iexact HO
  isplitl [Hat]; · iexact Hat
  isplitl [Hx] <;> iassumption

/-- After part 1 the device holds the rows that its own copies land in, and of its own result the half that stays. -/
theorem wp_part1 {R : sProp 𝕄} :
    iprop(R ∗ base m ρ K ∗ ow c (O₀ c) ∗ barStart c ∗ ∃ f, oBand c 0 2048 f) ⊢ WP c (onBufs (k0_part1 (F := F))) fun r =>
      iprop(⌜r.1 = c ∧ r.2.1 = xWord c⌝ ∗ R ∗ base m ρ K ∗ ow c (OX c 0 + OY c 0) ∗ atPos ER (barCell c) (0 + 1) ∅ 0 ∗ (barPayX c ∗ barPayY c) ∗ ∃ f, oBand c (1024 * xc c) 1024 f) := by
  rw [k0_part1_eq_skeleton]; unfold onBufs k0_part1_skel
  simp only [semSignalWord, semWaitWord, Prog.lift, Prog.bind_op, Prog.bind_ret, Prog.pure_eq_ret, wp_deviceId]
  have hx : oBand (F := F) c (near c) 512 = oBand (xp (xp c)) (near (xp (xp c))) 512 := by rw [xp_xp]
  have hy : oBand (F := F) c (far c) 512 = oBand (yp (yp c)) (far (yp (yp c))) 512 := by rw [yp_yp]
  have hsplit : iprop(R ∗ base m ρ K ∗ ow c (O₀ c) ∗ barStart c ∗ ∃ f, oBand c 0 2048 f)
      ⊢ iprop(∃ f, R ∗ base m ρ K ∗ ow c (O₀ c) ∗ barStart c ∗ oBand c (1024 * xc c) 1024 f ∗ oBand c (near c) 512 f ∗ oBand c (far c) 512 f) := by
    iintro ⟨HR, Hb, HO, Hs, ⟨%f, Ho⟩⟩
    iexists f
    isplitl [HR]; · iexact HR
    isplitl [Hb]; · iexact Hb
    isplitl [HO]; · iexact HO
    isplitl [Hs]; · iexact Hs
    rw [← oBand_split]; iexact Ho
  refine hsplit.trans (BIClass.exists_elim fun f => ?_)
  refine BIBase.Entails.trans ?_ (wp_signal (m := m) (ρ := ρ) (K := K) (R := iprop(R ∗ oBand c (1024 * xc c) 1024 f ∗ oBand c (far c) 512 f ∗ (cred (tallyAt (barCell c) () 2) ∗ atPos ER (barCell c) 0 ∅ 0) ∗ dutyTok ER (barCell (yp c)) 0 true))
    (dev_xp (k0_dev1_eq c)) false (OX c 0 + OY c 0 + tallyAt (barCell (yp c)) () 1) rfl (BIBase.Entails.trans ?_ (wp_signal (m := m) (ρ := ρ) (K := K) (R := iprop(R ∗ oBand c (1024 * xc c) 1024 f ∗ (cred (tallyAt (barCell c) () 2) ∗ atPos ER (barCell c) 0 ∅ 0)))
      (dev_yp (k0_dev2_eq c)) true (OX c 0 + OY c 0) rfl (BIBase.Entails.trans ?_ (wp_barrier (m := m) (ρ := ρ) (K := K) (R := iprop(R ∗ oBand c (1024 * xc c) 1024 f)) (above_add (above_OX c 0) (above_le (by decide) (above_OY c 0)))
        (wp_done ?_))))))
  · rw [payload_bar_false]
    unfold barPayX O₀ barStart
    iintro ⟨HR, Hb, HO, ⟨Hw, Htx, Hty⟩, Hk, Hn, Hf⟩
    isplitl [HR Hk Hf Hw Hty]
    · isplitl [HR]; · iexact HR
      isplitl [Hk]; · iexact Hk
      isplitl [Hf]; · iexact Hf
      isplitl [Hw] <;> iassumption
    isplitl [Hb]; · iexact Hb
    isplitl [HO]; · iexact HO
    isplitl [Htx]; · iexact Htx
    iexists f; rw [← hx]; iexact Hn
  · rw [payload_bar_true]
    unfold barPayY
    iintro ⟨⟨HR, Hk, Hf, Hw, Ht⟩, Hb, HO⟩
    isplitl [HR Hk Hw]
    · isplitl [HR]; · iexact HR
      isplitl [Hk] <;> iassumption
    isplitl [Hb]; · iexact Hb
    isplitl [HO]; · iexact HO
    isplitl [Ht]; · iexact Ht
    iexists f; rw [← hy]; iexact Hf
  · iintro ⟨⟨HR, Hk, Hw⟩, Hb, HO⟩
    isplitl [HR Hk]; · isplitl [HR] <;> iassumption
    isplitl [Hb]; · iexact Hb
    isplitl [HO] <;> iassumption
  · iintro ⟨⟨HR, Hk⟩, Hb, HO, Hat, Hp⟩
    isplitr; · (ipureintro; exact ⟨rfl, rfl⟩)
    isplitl [HR]; · iexact HR
    isplitl [Hb]; · iexact Hb
    isplitl [HO]; · iexact HO
    isplitl [Hat]; · iexact Hat
    isplitl [Hp]; · iexact Hp
    iexists f; iexact Hk

end Cert.Exchange

end
-- ==== Proof.PartsFill.lean ====
/-
# The first chunks leave

Parts 3 to 7 of the kernel: chunks are filled and sent over the first axis.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-- Chunk 0 leaves; chunk 1 is filled. -/
theorem wp_part3 {R : sProp 𝕄} {v2 v5 v8 v9 v24 v27 v30} :
    iprop(R ∗ Sending m ρ K c 0) ⊢ WP c (onBufs (k0_part3 (F := F)) c v2 v5 v8 v9 v24 v27 v30) fun _ => iprop(R ∗ Filling m ρ K c 1 2) := by
  rw [k0_part3_eq_skeleton]; unfold onBufs k0_part3_skel
  simp only [Prog.lift, Prog.bind_op, Prog.bind_ret, Prog.pure_eq_ret]
  refine open_chunk (by decide) ?_
  refine wp_fill 0 0 (cond_zero c) (congrFun (k0_off1_eq c) 0) (congrFun (k0_off1_eq c) 1) cast_cast32 ?_
  refine wp_fill 0 1 (cond_one c) (congrFun (k0_off2_eq c) 0) (congrFun (k0_off2_eq c) 1) cast_cast32 ?_
  refine wp_send_first 0 (by decide) (dev_xp (k0_dev3_eq c)) (off_first c 0 (by decide)) rfl rfl ?_
  refine open_chunk (by decide) ?_
  refine wp_fill 1 0 (cond_zero c) (congrFun (k0_off4_eq c) 0) (congrFun (k0_off4_eq c) 1) cast_cast32 ?_
  refine wp_fill 1 1 (cond_one c) (congrFun (k0_off5_eq c) 0) (congrFun (k0_off5_eq c) 1) cast_cast32 ?_
  exact wp_done .rfl

/-- Chunks 1 and 2 leave; chunk 3 is filled. -/
theorem wp_part4 {R : sProp 𝕄} {v2 v5 v8 v9 v24 v90 c1} :
    iprop(R ∗ Filling m ρ K c 1 2) ⊢ WP c (onBufs (k0_part4 (F := F)) c v2 v5 v8 v9 v24 v90 c1) fun _ => iprop(R ∗ Filling m ρ K c 3 2) := by
  rw [k0_part4_eq_skeleton]; unfold onBufs k0_part4_skel
  simp only [Prog.lift, Prog.bind_op, Prog.bind_ret, Prog.pure_eq_ret]
  refine wp_send_first 1 (by decide) (dev_xp (k0_dev4_eq c)) (off_first c 1 (by decide)) rfl rfl ?_
  refine open_chunk (by decide) ?_
  refine wp_fill 2 0 (cond_zero c) (congrFun (k0_off6_eq c) 0) (congrFun (k0_off6_eq c) 1) cast_cast32 ?_
  refine wp_fill 2 1 (cond_one c) (congrFun (k0_off7_eq c) 0) (congrFun (k0_off7_eq c) 1) cast_cast32 ?_
  refine wp_send_first 2 (by decide) (dev_xp (k0_dev5_eq c)) (off_first c 2 (by decide)) rfl rfl ?_
  refine open_chunk (by decide) ?_
  refine wp_fill 3 0 (cond_zero c) (congrFun (k0_off8_eq c) 0) (congrFun (k0_off8_eq c) 1) cast_cast32 ?_
  refine wp_fill 3 1 (cond_one c) (congrFun (k0_off9_eq c) 0) (congrFun (k0_off9_eq c) 1) cast_cast32 ?_
  exact wp_done .rfl

/-- Chunks 3 and 4 leave; chunk 5 is filled where the first coordinate is 0. -/
theorem wp_part5 {R : sProp 𝕄} {v2 v5 v8 v9 v24} :
    iprop(R ∗ Filling m ρ K c 3 2) ⊢ WP c (onBufs (k0_part5 (F := F)) c v2 v5 v8 v9 v24) fun _ => iprop(R ∗ Filling m ρ K c 5 1) := by
  rw [k0_part5_eq_skeleton]; unfold onBufs k0_part5_skel
  simp only [Prog.lift, Prog.bind_op, Prog.bind_ret, Prog.pure_eq_ret]
  refine wp_send_first 3 (by decide) (dev_xp (k0_dev6_eq c)) (off_first c 3 (by decide)) rfl rfl ?_
  refine open_chunk (by decide) ?_
  refine wp_fill 4 0 (cond_zero c) (congrFun (k0_off10_eq c) 0) (congrFun (k0_off10_eq c) 1) cast_cast32 ?_
  refine wp_fill 4 1 (cond_one c) (congrFun (k0_off11_eq c) 0) (congrFun (k0_off11_eq c) 1) cast_cast32 ?_
  refine wp_send_first 4 (by decide) (dev_xp (k0_dev7_eq c)) (off_first c 4 (by decide)) rfl rfl ?_
  refine open_chunk (by decide) ?_
  refine wp_fill 5 0 (cond_zero c) (congrFun (k0_off12_eq c) 0) (congrFun (k0_off12_eq c) 1) cast_cast32 ?_
  exact wp_done .rfl

/-- Chunk 5 leaves; chunk 6 is filled. -/
theorem wp_part6 {R : sProp 𝕄} {v2 v5 v8 v9 v24} :
    iprop(R ∗ Filling m ρ K c 5 1) ⊢ WP c (onBufs (k0_part6 (F := F)) c v2 v5 v8 v9 v24) fun _ => iprop(R ∗ Filling m ρ K c 6 2) := by
  rw [k0_part6_eq_skeleton]; unfold onBufs k0_part6_skel
  simp only [Prog.lift, Prog.bind_op, Prog.bind_ret, Prog.pure_eq_ret]
  refine wp_fill 5 1 (cond_one c) (congrFun (k0_off13_eq c) 0) (congrFun (k0_off13_eq c) 1) cast_cast32 ?_
  refine wp_send_first 5 (by decide) (dev_xp (k0_dev8_eq c)) (off_first c 5 (by decide)) rfl rfl ?_
  refine open_chunk (by decide) ?_
  refine wp_fill 6 0 (cond_zero c) (congrFun (k0_off14_eq c) 0) (congrFun (k0_off14_eq c) 1) cast_cast32 ?_
  refine wp_fill 6 1 (cond_one c) (congrFun (k0_off15_eq c) 0) (congrFun (k0_off15_eq c) 1) cast_cast32 ?_
  exact wp_done .rfl

/-- Chunks 6 and 7 leave; chunk 8 is filled. -/
theorem wp_part7 {R : sProp 𝕄} {v2 v5 v8 v9 v24} :
    iprop(R ∗ Filling m ρ K c 6 2) ⊢ WP c (onBufs (k0_part7 (F := F)) c v2 v5 v8 v9 v24) fun _ => iprop(R ∗ Filling m ρ K c 8 2) := by
  rw [k0_part7_eq_skeleton]; unfold onBufs k0_part7_skel
  simp only [Prog.lift, Prog.bind_op, Prog.bind_ret, Prog.pure_eq_ret]
  refine wp_send_first 6 (by decide) (dev_xp (k0_dev9_eq c)) (off_first c 6 (by decide)) rfl rfl ?_
  refine open_chunk (by decide) ?_
  refine wp_fill 7 0 (cond_zero c) (congrFun (k0_off16_eq c) 0) (congrFun (k0_off16_eq c) 1) cast_cast32 ?_
  refine wp_fill 7 1 (cond_one c) (congrFun (k0_off17_eq c) 0) (congrFun (k0_off17_eq c) 1) cast_cast32 ?_
  refine wp_send_first 7 (by decide) (dev_xp (k0_dev10_eq c)) (off_first c 7 (by decide)) rfl rfl ?_
  refine open_chunk (by decide) ?_
  refine wp_fill 8 0 (cond_zero c) (congrFun (k0_off18_eq c) 0) (congrFun (k0_off18_eq c) 1) cast_cast32 ?_
  refine wp_fill 8 1 (cond_one c) (congrFun (k0_off19_eq c) 0) (congrFun (k0_off19_eq c) 1) cast_cast32 ?_
  exact wp_done .rfl

end Cert.Exchange

end
-- ==== Proof.PartsSend.lean ====
/-
# The other chunks leave

Parts 8 to 11 of the kernel: chunks are filled and sent over the first axis.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-- Chunks 8 and 9 leave; chunk 10 is filled. -/
theorem wp_part8 {R : sProp 𝕄} {v2 v5 v8 v9 v24} :
    iprop(R ∗ Filling m ρ K c 8 2) ⊢ WP c (onBufs (k0_part8 (F := F)) c v2 v5 v8 v9 v24) fun _ => iprop(R ∗ Filling m ρ K c 10 2) := by
  rw [k0_part8_eq_skeleton]; unfold onBufs k0_part8_skel
  simp only [Prog.lift, Prog.bind_op, Prog.bind_ret, Prog.pure_eq_ret]
  refine wp_send_first 8 (by decide) (dev_xp (k0_dev11_eq c)) (off_first c 8 (by decide)) rfl rfl ?_
  refine open_chunk (by decide) ?_
  refine wp_fill 9 0 (cond_zero c) (congrFun (k0_off20_eq c) 0) (congrFun (k0_off20_eq c) 1) cast_cast32 ?_
  refine wp_fill 9 1 (cond_one c) (congrFun (k0_off21_eq c) 0) (congrFun (k0_off21_eq c) 1) cast_cast32 ?_
  refine wp_send_first 9 (by decide) (dev_xp (k0_dev12_eq c)) (off_first c 9 (by decide)) rfl rfl ?_
  refine open_chunk (by decide) ?_
  refine wp_fill 10 0 (cond_zero c) (congrFun (k0_off22_eq c) 0) (congrFun (k0_off22_eq c) 1) cast_cast32 ?_
  refine wp_fill 10 1 (cond_one c) (congrFun (k0_off23_eq c) 0) (congrFun (k0_off23_eq c) 1) cast_cast32 ?_
  exact wp_done .rfl

/-- Chunks 10 and 11 leave; chunk 12 is filled where the first coordinate is 0. -/
theorem wp_part9 {R : sProp 𝕄} {v2 v5 v8 v9 v24 v249} :
    iprop(R ∗ Filling m ρ K c 10 2) ⊢ WP c (onBufs (k0_part9 (F := F)) c v2 v5 v8 v9 v24 v249) fun _ => iprop(R ∗ Filling m ρ K c 12 1) := by
  rw [k0_part9_eq_skeleton]; unfold onBufs k0_part9_skel
  simp only [Prog.lift, Prog.bind_op, Prog.bind_ret, Prog.pure_eq_ret]
  refine wp_send_first 10 (by decide) (dev_xp (k0_dev13_eq c)) (off_first c 10 (by decide)) rfl rfl ?_
  refine open_chunk (by decide) ?_
  refine wp_fill 11 0 (cond_zero c) (congrFun (k0_off24_eq c) 0) (congrFun (k0_off24_eq c) 1) cast_cast32 ?_
  refine wp_fill 11 1 (cond_one c) (congrFun (k0_off25_eq c) 0) (congrFun (k0_off25_eq c) 1) cast_cast32 ?_
  refine wp_send_first 11 (by decide) (dev_xp (k0_dev14_eq c)) (off_first c 11 (by decide)) rfl rfl ?_
  refine open_chunk (by decide) ?_
  refine wp_fill 12 0 (cond_zero c) (congrFun (k0_off26_eq c) 0) (congrFun (k0_off26_eq c) 1) cast_cast32 ?_
  exact wp_done .rfl

/-- Chunks 12 and 13 leave. -/
theorem wp_part10 {R : sProp 𝕄} {v2 v5 v8 v9 v24 v282} :
    iprop(R ∗ Filling m ρ K c 12 1) ⊢ WP c (onBufs (k0_part10 (F := F)) c v2 v5 v8 v9 v24 v282) fun _ => iprop(R ∗ Sending m ρ K c 14) := by
  rw [k0_part10_eq_skeleton]; unfold onBufs k0_part10_skel
  simp only [Prog.lift, Prog.bind_op, Prog.bind_ret, Prog.pure_eq_ret]
  refine wp_fill 12 1 (cond_one c) (congrFun (k0_off27_eq c) 0) (congrFun (k0_off27_eq c) 1) cast_cast32 ?_
  refine wp_send_first 12 (by decide) (dev_xp (k0_dev15_eq c)) (off_first c 12 (by decide)) rfl rfl ?_
  refine open_chunk (by decide) ?_
  refine wp_fill 13 0 (cond_zero c) (congrFun (k0_off28_eq c) 0) (congrFun (k0_off28_eq c) 1) cast_cast32 ?_
  refine wp_fill 13 1 (cond_one c) (congrFun (k0_off29_eq c) 0) (congrFun (k0_off29_eq c) 1) cast_cast32 ?_
  refine wp_send_first 13 (by decide) (dev_xp (k0_dev16_eq c)) (off_first c 13 (by decide)) rfl rfl ?_
  exact wp_done .rfl

/-- Chunk 14 leaves; chunk 15 is filled. -/
theorem wp_part11 {R : sProp 𝕄} {v2 v5 v8 v9 v24} :
    iprop(R ∗ Sending m ρ K c 14) ⊢ WP c (onBufs (k0_part11 (F := F)) c v2 v5 v8 v9 v24) fun _ => iprop(R ∗ Filling m ρ K c 15 2) := by
  rw [k0_part11_eq_skeleton]; unfold onBufs k0_part11_skel
  simp only [Prog.lift, Prog.bind_op, Prog.bind_ret, Prog.pure_eq_ret]
  refine open_chunk (by decide) ?_
  refine wp_fill 14 0 (cond_zero c) (congrFun (k0_off30_eq c) 0) (congrFun (k0_off30_eq c) 1) cast_cast32 ?_
  refine wp_fill 14 1 (cond_one c) (congrFun (k0_off31_eq c) 0) (congrFun (k0_off31_eq c) 1) cast_cast32 ?_
  refine wp_send_first 14 (by decide) (dev_xp (k0_dev17_eq c)) (off_first c 14 (by decide)) rfl rfl ?_
  refine open_chunk (by decide) ?_
  refine wp_fill 15 0 (cond_zero c) (congrFun (k0_off32_eq c) 0) (congrFun (k0_off32_eq c) 1) cast_cast32 ?_
  refine wp_fill 15 1 (cond_one c) (congrFun (k0_off33_eq c) 0) (congrFun (k0_off33_eq c) 1) cast_cast32 ?_
  exact wp_done .rfl

end Cert.Exchange

end
-- ==== Proof.PartsForward.lean ====
/-
# The chunks are sent on

Parts 12 to 22 of the kernel: the half that stays is put in place, and each chunk that comes over the first axis is sent on over the second.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-- What a device holds for after its first copies: the half of its result that it fills itself, and what its second copies need. -/
def halfAndWaits (c : Dev nD) : sProp 𝕄 := iprop((∃ f, oBand c (1024 * xc c) 1024 f) ∗ bigSep (Finset.range 16) (secondReady c))

/-- All first copies are on their way: the half that stays is next. -/
theorem keep_start {R : sProp 𝕄} : iprop((R ∗ halfAndWaits c) ∗ Sending m ρ K c 16)
    ⊢ iprop(((R ∗ bigSep (Finset.range 16) (firstSent c)) ∗ Forwarding m ρ K c 0) ∗ Keeping m ρ c 0) := by
  unfold halfAndWaits Sending Forwarding Keeping
  rw [OX_end, zero_add, Finset.range_eq_Ico]
  iintro ⟨⟨HR, ⟨%f, Ho⟩, Hw⟩, Hb, Hx, HO, -, Hs⟩
  isplitl [HR Hs Hw Hb HO]
  · isplitl [HR Hs]; · isplitl [HR] <;> iassumption
    isplitl [Hb]; · iexact Hb
    isplitl [HO]; · iexact HO
    isplitl [Hw]; · iexact Hw
    rw [Finset.range_zero, bigSep_empty]; iempintro
  isplitl [Hx]; · iexact Hx
  iexists f; isplitr; · (ipureintro; intro h; exact absurd h (Nat.not_lt_zero _))
  iexact Ho
/-- It is done: the chunks that come are next. -/
theorem keep_end {R P Q : sProp 𝕄} : iprop((R ∗ P) ∗ Q) ⊢ iprop((R ∗ Q) ∗ P) := by
  iintro ⟨⟨HR, HP⟩, HQ⟩
  isplitl [HR HQ]; · isplitl [HR] <;> iassumption
  iexact HP

/-- Chunk 15 leaves; the half that stays is put in place; chunk 0 comes. -/
theorem wp_part12 {R : sProp 𝕄} {v5 v8 v9 v10} :
    iprop((R ∗ halfAndWaits c) ∗ Filling m ρ K c 15 2) ⊢ WP c (onBufs (k0_part12 (F := F)) c (xWord c) v5 v8 v9 v10) fun _ => iprop(((R ∗ bigSep (Finset.range 16) (firstSent c)) ∗ Keeping m ρ c 2) ∗ Landed m ρ K c 0) := by
  rw [k0_part12_eq_skeleton]; unfold onBufs k0_part12_skel
  simp only [Prog.lift, Prog.bind_op, Prog.bind_ret, Prog.pure_eq_ret]
  refine wp_send_first 15 (by decide) (dev_xp (k0_dev18_eq c)) (off_first c 15 (by decide)) rfl rfl ?_
  refine keep_start.trans ?_
  refine wp_keep 0 (word_zero c) cast1024 ?_
  refine wp_keep 1 (word_one c) cast1024 ?_
  refine keep_end.trans ?_
  refine wp_wait_first 0 (by decide) rfl (credit_oChunk _ _) ?_
  exact wp_done .rfl

/-- Chunks 0 and 1 are sent on. -/
theorem wp_part13 {R : sProp 𝕄} {v2 v5 v8 v9 v10} :
    iprop(R ∗ Landed m ρ K c 0) ⊢ WP c (onBufs (k0_part13 (F := F)) c v2 v5 v8 v9 v10) fun _ => iprop(R ∗ Forwarding m ρ K c 2) := by
  rw [k0_part13_eq_skeleton]; unfold onBufs k0_part13_skel
  simp only [Prog.lift, Prog.bind_op, Prog.bind_ret, Prog.pure_eq_ret]
  refine wp_send_second 0 (by decide) (dev_yp (k0_dev19_eq c)) (off_second c 0 (by decide)) rfl rfl ?_
  refine wp_wait_first 1 (by decide) rfl (credit_oChunk _ _) ?_
  refine wp_send_second 1 (by decide) (dev_yp (k0_dev20_eq c)) (off_second c 1 (by decide)) rfl rfl ?_
  exact wp_done .rfl

/-- Chunk 2 is sent on; chunk 3 comes. -/
theorem wp_part14 {R : sProp 𝕄} {v2 v5 v8 v9 v10} :
    iprop(R ∗ Forwarding m ρ K c 2) ⊢ WP c (onBufs (k0_part14 (F := F)) c v2 v5 v8 v9 v10) fun _ => iprop(R ∗ Landed m ρ K c 3) := by
  rw [k0_part14_eq_skeleton]; unfold onBufs k0_part14_skel
  simp only [Prog.lift, Prog.bind_op, Prog.bind_ret, Prog.pure_eq_ret]
  refine wp_wait_first 2 (by decide) rfl (credit_oChunk _ _) ?_
  refine wp_send_second 2 (by decide) (dev_yp (k0_dev21_eq c)) (off_second c 2 (by decide)) rfl rfl ?_
  refine wp_wait_first 3 (by decide) rfl (credit_oChunk _ _) ?_
  exact wp_done .rfl

/-- Chunks 3 and 4 are sent on. -/
theorem wp_part15 {R : sProp 𝕄} {v2 v5 v8 v9 v10} :
    iprop(R ∗ Landed m ρ K c 3) ⊢ WP c (onBufs (k0_part15 (F := F)) c v2 v5 v8 v9 v10) fun _ => iprop(R ∗ Forwarding m ρ K c 5) := by
  rw [k0_part15_eq_skeleton]; unfold onBufs k0_part15_skel
  simp only [Prog.lift, Prog.bind_op, Prog.bind_ret, Prog.pure_eq_ret]
  refine wp_send_second 3 (by decide) (dev_yp (k0_dev22_eq c)) (off_second c 3 (by decide)) rfl rfl ?_
  refine wp_wait_first 4 (by decide) rfl (credit_oChunk _ _) ?_
  refine wp_send_second 4 (by decide) (dev_yp (k0_dev23_eq c)) (off_second c 4 (by decide)) rfl rfl ?_
  exact wp_done .rfl

/-- Chunk 5 is sent on; chunk 6 comes. -/
theorem wp_part16 {R : sProp 𝕄} {v2 v5 v8 v9 v10} :
    iprop(R ∗ Forwarding m ρ K c 5) ⊢ WP c (onBufs (k0_part16 (F := F)) c v2 v5 v8 v9 v10) fun _ => iprop(R ∗ Landed m ρ K c 6) := by
  rw [k0_part16_eq_skeleton]; unfold onBufs k0_part16_skel
  simp only [Prog.lift, Prog.bind_op, Prog.bind_ret, Prog.pure_eq_ret]
  refine wp_wait_first 5 (by decide) rfl (credit_oChunk _ _) ?_
  refine wp_send_second 5 (by decide) (dev_yp (k0_dev24_eq c)) (off_second c 5 (by decide)) rfl rfl ?_
  refine wp_wait_first 6 (by decide) rfl (credit_oChunk _ _) ?_
  exact wp_done .rfl

/-- Chunks 6 and 7 are sent on. -/
theorem wp_part17 {R : sProp 𝕄} {v2 v5 v8 v9 v10} :
    iprop(R ∗ Landed m ρ K c 6) ⊢ WP c (onBufs (k0_part17 (F := F)) c v2 v5 v8 v9 v10) fun _ => iprop(R ∗ Forwarding m ρ K c 8) := by
  rw [k0_part17_eq_skeleton]; unfold onBufs k0_part17_skel
  simp only [Prog.lift, Prog.bind_op, Prog.bind_ret, Prog.pure_eq_ret]
  refine wp_send_second 6 (by decide) (dev_yp (k0_dev25_eq c)) (off_second c 6 (by decide)) rfl rfl ?_
  refine wp_wait_first 7 (by decide) rfl (credit_oChunk _ _) ?_
  refine wp_send_second 7 (by decide) (dev_yp (k0_dev26_eq c)) (off_second c 7 (by decide)) rfl rfl ?_
  exact wp_done .rfl

/-- Chunk 8 is sent on; chunk 9 comes. -/
theorem wp_part18 {R : sProp 𝕄} {v2 v5 v8 v9 v10} :
    iprop(R ∗ Forwarding m ρ K c 8) ⊢ WP c (onBufs (k0_part18 (F := F)) c v2 v5 v8 v9 v10) fun _ => iprop(R ∗ Landed m ρ K c 9) := by
  rw [k0_part18_eq_skeleton]; unfold onBufs k0_part18_skel
  simp only [Prog.lift, Prog.bind_op, Prog.bind_ret, Prog.pure_eq_ret]
  refine wp_wait_first 8 (by decide) rfl (credit_oChunk _ _) ?_
  refine wp_send_second 8 (by decide) (dev_yp (k0_dev27_eq c)) (off_second c 8 (by decide)) rfl rfl ?_
  refine wp_wait_first 9 (by decide) rfl (credit_oChunk _ _) ?_
  exact wp_done .rfl

/-- Chunks 9 and 10 are sent on. -/
theorem wp_part19 {R : sProp 𝕄} {v2 v5 v8 v9 v10 v568 v569} :
    iprop(R ∗ Landed m ρ K c 9) ⊢ WP c (onBufs (k0_part19 (F := F)) c v2 v5 v8 v9 v10 v568 v569) fun _ => iprop(R ∗ Forwarding m ρ K c 11) := by
  rw [k0_part19_eq_skeleton]; unfold onBufs k0_part19_skel
  simp only [Prog.lift, Prog.bind_op, Prog.bind_ret, Prog.pure_eq_ret]
  refine wp_send_second 9 (by decide) (dev_yp (k0_dev28_eq c)) (off_second c 9 (by decide)) rfl rfl ?_
  refine wp_wait_first 10 (by decide) rfl (credit_oChunk _ _) ?_
  refine wp_send_second 10 (by decide) (dev_yp (k0_dev29_eq c)) (off_second c 10 (by decide)) rfl rfl ?_
  exact wp_done .rfl

/-- Chunk 11 is sent on; chunk 12 comes. -/
theorem wp_part20 {R : sProp 𝕄} {v2 v5 v8 v9 v10 v602} :
    iprop(R ∗ Forwarding m ρ K c 11) ⊢ WP c (onBufs (k0_part20 (F := F)) c v2 v5 v8 v9 v10 v602) fun _ => iprop(R ∗ Landed m ρ K c 12) := by
  rw [k0_part20_eq_skeleton]; unfold onBufs k0_part20_skel
  simp only [Prog.lift, Prog.bind_op, Prog.bind_ret, Prog.pure_eq_ret]
  refine wp_wait_first 11 (by decide) rfl (credit_oChunk _ _) ?_
  refine wp_send_second 11 (by decide) (dev_yp (k0_dev30_eq c)) (off_second c 11 (by decide)) rfl rfl ?_
  refine wp_wait_first 12 (by decide) rfl (credit_oChunk _ _) ?_
  exact wp_done .rfl

/-- Chunks 12 and 13 are sent on. -/
theorem wp_part21 {R : sProp 𝕄} {v2 v5 v8 v9 v10 v632 v633} :
    iprop(R ∗ Landed m ρ K c 12) ⊢ WP c (onBufs (k0_part21 (F := F)) c v2 v5 v8 v9 v10 v632 v633) fun _ => iprop(R ∗ Forwarding m ρ K c 14) := by
  rw [k0_part21_eq_skeleton]; unfold onBufs k0_part21_skel
  simp only [Prog.lift, Prog.bind_op, Prog.bind_ret, Prog.pure_eq_ret]
  refine wp_send_second 12 (by decide) (dev_yp (k0_dev31_eq c)) (off_second c 12 (by decide)) rfl rfl ?_
  refine wp_wait_first 13 (by decide) rfl (credit_oChunk _ _) ?_
  refine wp_send_second 13 (by decide) (dev_yp (k0_dev32_eq c)) (off_second c 13 (by decide)) rfl rfl ?_
  exact wp_done .rfl

/-- Chunk 14 is sent on; chunk 15 comes. -/
theorem wp_part22 {R : sProp 𝕄} {v2 v5 v8 v9 v10 v666} :
    iprop(R ∗ Forwarding m ρ K c 14) ⊢ WP c (onBufs (k0_part22 (F := F)) c v2 v5 v8 v9 v10 v666) fun _ => iprop(R ∗ Landed m ρ K c 15) := by
  rw [k0_part22_eq_skeleton]; unfold onBufs k0_part22_skel
  simp only [Prog.lift, Prog.bind_op, Prog.bind_ret, Prog.pure_eq_ret]
  refine wp_wait_first 14 (by decide) rfl (credit_oChunk _ _) ?_
  refine wp_send_second 14 (by decide) (dev_yp (k0_dev33_eq c)) (off_second c 14 (by decide)) rfl rfl ?_
  refine wp_wait_first 15 (by decide) rfl (credit_oChunk _ _) ?_
  exact wp_done .rfl

end Cert.Exchange

end
-- ==== Proof.PartsDrain.lean ====
/-
# The last waits

Parts 23 to 32 of the kernel: the last chunk is sent on, and then each copy is waited for.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-- What the last waits of a device need, besides what its copies leave. -/
def waitsLeft (c : Dev nD) : sProp 𝕄 := bigSep (Finset.range 16) fun k =>
  iprop(atPos ER (dCell c 0 k) 0 ∅ 0 ∗ atPos ER (dCell c 2 k) 0 ∅ 0 ∗ awaits c 3 k)
/-- The waits for the first copies from across the first axis are behind. -/
def firstDone (c : Dev nD) : sProp 𝕄 := bigSep (Finset.range 16) fun k => atPos ER (dCell c 1 k) (0 + 1) ∅ 0

/-- All copies are on their way: the last waits are next. -/
theorem drain_start {R : sProp 𝕄} : iprop(((R ∗ waitsLeft c) ∗ bigSep (Finset.range 16) (firstSent c)) ∗ Forwarding m ρ K c 16)
    ⊢ iprop((R ∗ firstDone c) ∗ Draining m ρ K c 0 0 0) := by
  have hA (f : ℕ) : (bigSep (Finset.range 16) (awaits c f) : sProp 𝕄)
      = iprop((bigSep (Finset.range 16) fun k => cred (tallyAt (dCell c f k) () N)) ∗ bigSep (Finset.range 16) fun k => atPos ER (dCell c f k) 0 ∅ 0) := bigSep_sep' _ _ _
  have hS : (bigSep (Finset.range 16) (secondSent c) : sProp 𝕄)
      = iprop((bigSep (Finset.range 16) fun k => atPos ER (dCell c 1 k) (0 + 1) ∅ 0) ∗ bigSep (Finset.range 16) fun k => cred (tallyAt (dCell c 2 k) () N)) := bigSep_sep' _ _ _
  unfold waitsLeft Forwarding Draining Family firstDone
  rw [OY_end, ← Finset.range_eq_Ico, Finset.range_zero, bigSep_sep', bigSep_sep', hA 0, hA 2, hA 3, hS]
  simp only [bigSep_empty]
  iintro ⟨⟨⟨HR, H0, H2, H3c, H3⟩, H0c⟩, Hb, HO, -, H1, H2c⟩
  isplitl [HR H1]; · isplitl [HR] <;> iassumption
  isplitl [Hb]; · iexact Hb
  isplitl [HO]; · iexact HO
  isplitl [H0 H0c]
  · isplitl [H0 H0c]
    · isplitl [H0c]; · iexact H0c
      iexact H0
    iempintro
  isplitl [H2 H2c]
  · isplitl [H2 H2c]; · isplitl [H2c] <;> iassumption
    iempintro
  isplitl [H3 H3c]; · isplitl [H3c] <;> iassumption
  iempintro

/-- Chunk 15 is sent on; the waits for chunk 0 are done. -/
theorem wp_part23 {R : sProp 𝕄} {v2 v8 v10 v697 c0} :
    iprop(((R ∗ waitsLeft c) ∗ bigSep (Finset.range 16) (firstSent c)) ∗ Landed m ρ K c 15) ⊢ WP c (onBufs (k0_part23 (F := F)) c v2 v8 v10 v697 c0) fun _ => iprop((R ∗ firstDone c) ∗ Draining m ρ K c 1 1 1) := by
  rw [k0_part23_eq_skeleton]; unfold onBufs k0_part23_skel
  simp only [Prog.lift, Prog.bind_op, Prog.bind_ret, Prog.pure_eq_ret]
  refine wp_send_second 15 (by decide) (dev_yp (k0_dev34_eq c)) (off_second c 15 (by decide)) rfl rfl ?_
  refine drain_start.trans ?_
  refine wp_drain0 0 (by decide) rfl (credit_sChunk _ _) ?_
  refine wp_drain2 0 (by decide) rfl (credit_oChunk _ _) ?_
  refine wp_drain3 0 (by decide) rfl (credit_oChunk _ _) ?_
  exact wp_done .rfl

/-- The last waits, five of them. -/
theorem wp_part24 {R : sProp 𝕄} {v2 v8 v10} :
    iprop(R ∗ Draining m ρ K c 1 1 1) ⊢ WP c (onBufs (k0_part24 (F := F)) c v2 v8 v10) fun _ => iprop(R ∗ Draining m ρ K c 3 3 2) := by
  rw [k0_part24_eq_skeleton]; unfold onBufs k0_part24_skel
  simp only [Prog.lift, Prog.bind_op, Prog.bind_ret, Prog.pure_eq_ret]
  refine wp_drain0 1 (by decide) rfl (credit_sChunk _ _) ?_
  refine wp_drain2 1 (by decide) rfl (credit_oChunk _ _) ?_
  refine wp_drain3 1 (by decide) rfl (credit_oChunk _ _) ?_
  refine wp_drain0 2 (by decide) rfl (credit_sChunk _ _) ?_
  refine wp_drain2 2 (by decide) rfl (credit_oChunk _ _) ?_
  exact wp_done .rfl

/-- The next four waits. -/
theorem wp_part25 {R : sProp 𝕄} {v2 v8 v10 c8} :
    iprop(R ∗ Draining m ρ K c 3 3 2) ⊢ WP c (onBufs (k0_part25 (F := F)) c v2 v8 v10 c8) fun _ => iprop(R ∗ Draining m ρ K c 4 4 4) := by
  rw [k0_part25_eq_skeleton]; unfold onBufs k0_part25_skel
  simp only [Prog.lift, Prog.bind_op, Prog.bind_ret, Prog.pure_eq_ret]
  refine wp_drain3 2 (by decide) rfl (credit_oChunk _ _) ?_
  refine wp_drain0 3 (by decide) rfl (credit_sChunk _ _) ?_
  refine wp_drain2 3 (by decide) rfl (credit_oChunk _ _) ?_
  refine wp_drain3 3 (by decide) rfl (credit_oChunk _ _) ?_
  exact wp_done .rfl

/-- The next five waits. -/
theorem wp_part26 {R : sProp 𝕄} {v2 v8 v10} :
    iprop(R ∗ Draining m ρ K c 4 4 4) ⊢ WP c (onBufs (k0_part26 (F := F)) c v2 v8 v10) fun _ => iprop(R ∗ Draining m ρ K c 6 6 5) := by
  rw [k0_part26_eq_skeleton]; unfold onBufs k0_part26_skel
  simp only [Prog.lift, Prog.bind_op, Prog.bind_ret, Prog.pure_eq_ret]
  refine wp_drain0 4 (by decide) rfl (credit_sChunk _ _) ?_
  refine wp_drain2 4 (by decide) rfl (credit_oChunk _ _) ?_
  refine wp_drain3 4 (by decide) rfl (credit_oChunk _ _) ?_
  refine wp_drain0 5 (by decide) rfl (credit_sChunk _ _) ?_
  refine wp_drain2 5 (by decide) rfl (credit_oChunk _ _) ?_
  exact wp_done .rfl

/-- The next four waits. -/
theorem wp_part27 {R : sProp 𝕄} {v2 v8 v10 c8} :
    iprop(R ∗ Draining m ρ K c 6 6 5) ⊢ WP c (onBufs (k0_part27 (F := F)) c v2 v8 v10 c8) fun _ => iprop(R ∗ Draining m ρ K c 7 7 7) := by
  rw [k0_part27_eq_skeleton]; unfold onBufs k0_part27_skel
  simp only [Prog.lift, Prog.bind_op, Prog.bind_ret, Prog.pure_eq_ret]
  refine wp_drain3 5 (by decide) rfl (credit_oChunk _ _) ?_
  refine wp_drain0 6 (by decide) rfl (credit_sChunk _ _) ?_
  refine wp_drain2 6 (by decide) rfl (credit_oChunk _ _) ?_
  refine wp_drain3 6 (by decide) rfl (credit_oChunk _ _) ?_
  exact wp_done .rfl

/-- The next five waits. -/
theorem wp_part28 {R : sProp 𝕄} {v2 v8 v10} :
    iprop(R ∗ Draining m ρ K c 7 7 7) ⊢ WP c (onBufs (k0_part28 (F := F)) c v2 v8 v10) fun _ => iprop(R ∗ Draining m ρ K c 9 9 8) := by
  rw [k0_part28_eq_skeleton]; unfold onBufs k0_part28_skel
  simp only [Prog.lift, Prog.bind_op, Prog.bind_ret, Prog.pure_eq_ret]
  refine wp_drain0 7 (by decide) rfl (credit_sChunk _ _) ?_
  refine wp_drain2 7 (by decide) rfl (credit_oChunk _ _) ?_
  refine wp_drain3 7 (by decide) rfl (credit_oChunk _ _) ?_
  refine wp_drain0 8 (by decide) rfl (credit_sChunk _ _) ?_
  refine wp_drain2 8 (by decide) rfl (credit_oChunk _ _) ?_
  exact wp_done .rfl

/-- The next four waits. -/
theorem wp_part29 {R : sProp 𝕄} {v2 v8 v10 c8} :
    iprop(R ∗ Draining m ρ K c 9 9 8) ⊢ WP c (onBufs (k0_part29 (F := F)) c v2 v8 v10 c8) fun _ => iprop(R ∗ Draining m ρ K c 10 10 10) := by
  rw [k0_part29_eq_skeleton]; unfold onBufs k0_part29_skel
  simp only [Prog.lift, Prog.bind_op, Prog.bind_ret, Prog.pure_eq_ret]
  refine wp_drain3 8 (by decide) rfl (credit_oChunk _ _) ?_
  refine wp_drain0 9 (by decide) rfl (credit_sChunk _ _) ?_
  refine wp_drain2 9 (by decide) rfl (credit_oChunk _ _) ?_
  refine wp_drain3 9 (by decide) rfl (credit_oChunk _ _) ?_
  exact wp_done .rfl

/-- The next five waits. -/
theorem wp_part30 {R : sProp 𝕄} {v2 v8 v10} :
    iprop(R ∗ Draining m ρ K c 10 10 10) ⊢ WP c (onBufs (k0_part30 (F := F)) c v2 v8 v10) fun _ => iprop(R ∗ Draining m ρ K c 12 12 11) := by
  rw [k0_part30_eq_skeleton]; unfold onBufs k0_part30_skel
  simp only [Prog.lift, Prog.bind_op, Prog.bind_ret, Prog.pure_eq_ret]
  refine wp_drain0 10 (by decide) rfl (credit_sChunk _ _) ?_
  refine wp_drain2 10 (by decide) rfl (credit_oChunk _ _) ?_
  refine wp_drain3 10 (by decide) rfl (credit_oChunk _ _) ?_
  refine wp_drain0 11 (by decide) rfl (credit_sChunk _ _) ?_
  refine wp_drain2 11 (by decide) rfl (credit_oChunk _ _) ?_
  exact wp_done .rfl

/-- The next four waits. -/
theorem wp_part31 {R : sProp 𝕄} {v2 v8 v10 c8} :
    iprop(R ∗ Draining m ρ K c 12 12 11) ⊢ WP c (onBufs (k0_part31 (F := F)) c v2 v8 v10 c8) fun _ => iprop(R ∗ Draining m ρ K c 13 13 13) := by
  rw [k0_part31_eq_skeleton]; unfold onBufs k0_part31_skel
  simp only [Prog.lift, Prog.bind_op, Prog.bind_ret, Prog.pure_eq_ret]
  refine wp_drain3 11 (by decide) rfl (credit_oChunk _ _) ?_
  refine wp_drain0 12 (by decide) rfl (credit_sChunk _ _) ?_
  refine wp_drain2 12 (by decide) rfl (credit_oChunk _ _) ?_
  refine wp_drain3 12 (by decide) rfl (credit_oChunk _ _) ?_
  exact wp_done .rfl

/-- The next five waits. -/
theorem wp_part32 {R : sProp 𝕄} {v2 v8 v10} :
    iprop(R ∗ Draining m ρ K c 13 13 13) ⊢ WP c (onBufs (k0_part32 (F := F)) c v2 v8 v10) fun _ => iprop(R ∗ Draining m ρ K c 15 15 14) := by
  rw [k0_part32_eq_skeleton]; unfold onBufs k0_part32_skel
  simp only [Prog.lift, Prog.bind_op, Prog.bind_ret, Prog.pure_eq_ret]
  refine wp_drain0 13 (by decide) rfl (credit_sChunk _ _) ?_
  refine wp_drain2 13 (by decide) rfl (credit_oChunk _ _) ?_
  refine wp_drain3 13 (by decide) rfl (credit_oChunk _ _) ?_
  refine wp_drain0 14 (by decide) rfl (credit_sChunk _ _) ?_
  refine wp_drain2 14 (by decide) rfl (credit_oChunk _ _) ?_
  exact wp_done .rfl

end Cert.Exchange

end
-- ==== Proof.Whole.lean ====
/-
# The whole kernel

The parts in a row: from a device's staged argument and its share of the protocol to the finished result, with every
semaphore back at zero.
-/
module

public import proofs.«01_k».proof.Proof.Barrier
public import proofs.«01_k».proof.Proof.PartsFill
public import proofs.«01_k».proof.Proof.PartsSend
public import proofs.«01_k».proof.Proof.PartsForward
public import proofs.«01_k».proof.Proof.PartsDrain

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Key → ℕ} {c : Dev nD}

/-! ## Before the first copy -/

/-- The duties that device `c` pays by its copies, -/
def copyToks (c : Dev nD) : sProp 𝕄 := bigSep (Finset.range 16) fun k =>
  iprop(dutyTok ER (dCell c 0 k) 0 false ∗ dutyTok ER (dCell (xp c) 1 k) 0 false ∗ dutyTok ER (dCell c 2 k) 0 false ∗ dutyTok ER (dCell (yp c) 3 k) 0 false)
/-- its places in the rounds of its copy semaphores, -/
def copyPos (c : Dev nD) : sProp 𝕄 := bigSep (Finset.range 16) fun k =>
  iprop(atPos ER (dCell c 0 k) 0 ∅ 0 ∗ atPos ER (dCell c 1 k) 0 ∅ 0 ∗ atPos ER (dCell c 2 k) 0 ∅ 0 ∗ atPos ER (dCell c 3 k) 0 ∅ 0)
/-- and the landings it may wait for. -/
def copyCreds (c : Dev nD) : sProp 𝕄 := bigSep (Finset.range 16) fun k =>
  iprop(cred (tallyAt (dCell c 1 k) () N) ∗ cred (tallyAt (dCell c 3 k) () N))

/-- A band of some contents is cut in chunks of some contents. -/
theorem oBand_cut (c : Dev nD) (lo : ℕ) : (iprop(∃ f, oBand c lo 512 f) : sProp 𝕄) ⊢ bigSep (Finset.range 16) fun k => iprop(∃ f, oBand c (lo + 32 * k) 32 f) := by
  refine BIClass.exists_elim fun f => (BIBase.Entails.of_eq (oBand_chunks c lo 16 f)).trans (bigSep_mono fun k _ => ?_)
  exact (show oBand c (lo + 32 * k) 32 f ⊢ iprop(∃ f, oBand c (lo + 32 * k) 32 f) from by iintro H; iexists f; iexact H)
theorem sBand_cut (c : Dev nD) : (iprop(∃ f, sBand c 0 512 f) : sProp 𝕄) ⊢ bigSep (Finset.range 16) fun k => iprop(∃ f, sBand c (32 * k) 32 f) := by
  refine BIClass.exists_elim fun f => (BIBase.Entails.of_eq (sBand_rows c 16 f)).trans (bigSep_mono fun k _ => ?_)
  exact (show sBand c (32 * k) 32 f ⊢ iprop(∃ f, sBand c (32 * k) 32 f) from by iintro H; iexists f; iexact H)

/-- What is held after the barrier, sorted by chunks. -/
theorem sending_start {R : sProp 𝕄} :
    iprop((R ∗ xPts m ρ c ∗ (∃ f, sBand c 0 512 f) ∗ copyToks c ∗ copyPos c ∗ copyCreds c)
        ∗ base m ρ K ∗ ow c (OX c 0 + OY c 0) ∗ atPos ER (barCell c) (0 + 1) ∅ 0 ∗ (barPayX c ∗ barPayY c) ∗ ∃ f, oBand c (1024 * xc c) 1024 f)
      ⊢ iprop((((R ∗ atPos ER (barCell c) (0 + 1) ∅ 0) ∗ waitsLeft c) ∗ halfAndWaits c) ∗ Sending m ρ K c 0) := by
  have h1 : (bigSep (Finset.range 16) (firstReady c) : sProp 𝕄) = iprop((bigSep (Finset.range 16) fun k => iprop(∃ f, sBand c (32 * k) 32 f))
      ∗ (bigSep (Finset.range 16) fun k => iprop(∃ f, oBand (xp c) (near (xp c) + 32 * k) 32 f)) ∗ (bigSep (Finset.range 16) fun k => dutyTok ER (dCell c 0 k) 0 false)
      ∗ bigSep (Finset.range 16) fun k => dutyTok ER (dCell (xp c) 1 k) 0 false) := by
    rw [← bigSep_sep', ← bigSep_sep', ← bigSep_sep']; rfl
  have h2 : (bigSep (Finset.range 16) (secondReady c) : sProp 𝕄) = iprop(((bigSep (Finset.range 16) fun k => cred (tallyAt (dCell c 1 k) () N))
      ∗ bigSep (Finset.range 16) fun k => atPos ER (dCell c 1 k) 0 ∅ 0)
      ∗ (bigSep (Finset.range 16) fun k => iprop(∃ f, oBand (yp c) (near c + 32 * k) 32 f)) ∗ (bigSep (Finset.range 16) fun k => dutyTok ER (dCell c 2 k) 0 false)
      ∗ bigSep (Finset.range 16) fun k => dutyTok ER (dCell (yp c) 3 k) 0 false) := by
    rw [← bigSep_sep', ← bigSep_sep', ← bigSep_sep', ← bigSep_sep']; rfl
  have h3 : (waitsLeft c : sProp 𝕄) = iprop((bigSep (Finset.range 16) fun k => atPos ER (dCell c 0 k) 0 ∅ 0) ∗ (bigSep (Finset.range 16) fun k => atPos ER (dCell c 2 k) 0 ∅ 0)
      ∗ (bigSep (Finset.range 16) fun k => cred (tallyAt (dCell c 3 k) () N)) ∗ bigSep (Finset.range 16) fun k => atPos ER (dCell c 3 k) 0 ∅ 0) := by
    rw [← bigSep_sep', ← bigSep_sep', ← bigSep_sep']; rfl
  unfold Sending halfAndWaits copyToks copyPos copyCreds barPayX barPayY
  rw [← Finset.range_eq_Ico, h1, h2, h3]
  simp only [bigSep_sep', Finset.range_zero, bigSep_empty]
  iintro ⟨⟨HR, Hx, Hs, ⟨Ht0, Ht1, Ht2, Ht3⟩, ⟨Ha0, Ha1, Ha2, Ha3⟩, ⟨Hc1, Hc3⟩⟩, Hb, HO, Hat, ⟨Hpx, Hpy⟩, Hk⟩
  ihave Hs' := (sBand_cut (F := F) c) $$ Hs
  ihave Hpx' := (oBand_cut (F := F) (xp c) (near (xp c))) $$ Hpx
  ihave Hpy' := (oBand_cut (F := F) (yp c) (far (yp c))) $$ Hpy
  rw [far_yp]
  isplitl [HR Hat Ha0 Ha2 Ha3 Hc3 Hk Hc1 Ha1 Hpy' Ht2 Ht3]
  · isplitl [HR Hat Ha0 Ha2 Ha3 Hc3]
    · isplitl [HR Hat]; · isplitl [HR] <;> iassumption
      isplitl [Ha0]; · iexact Ha0
      isplitl [Ha2]; · iexact Ha2
      isplitl [Hc3] <;> iassumption
    isplitl [Hk]; · iexact Hk
    isplitl [Hc1 Ha1]; · isplitl [Hc1] <;> iassumption
    isplitl [Hpy']; · iexact Hpy'
    isplitl [Ht2] <;> iassumption
  isplitl [Hb]; · iexact Hb
  isplitl [Hx]; · iexact Hx
  isplitl [HO]; · iexact HO
  isplitl [Hs' Hpx' Ht0 Ht1]
  · isplitl [Hs']; · iexact Hs'
    isplitl [Hpx']; · iexact Hpx'
    isplitl [Ht0] <;> iassumption
  iempintro

/-! ## After the last wait -/

/-- A family of copy semaphores at zero. -/
def zeros (c : Dev nD) (f : ℕ) : sProp 𝕄 := bigSep (Finset.range 16) fun k => semVal (dCell c f k) 0

/-- A semaphore that went through its round is back at zero. -/
theorem close_copy (f k : ℕ) : iprop(base m ρ K ∗ atPos ER (dCell c f k) (0 + 1) ∅ 0) ⊢ |={Set.univ}=> semVal (dCell c f k) 0 := by
  unfold base
  iintro ⟨⟨Hr, -⟩, Hat⟩
  ihave #HI := (inv_copy m ρ K c f k) $$ Hr
  iapply (Rounds.cell_close ER (sched m ρ) (Set.mem_univ (K (dKey c f k))) (fun h => h) (R := 0 + 1) (duties_later m ρ (dCell c f k)))
  isplitr; · iexact HI
  iexact Hat
theorem close_bar : iprop(base m ρ K ∗ atPos ER (barCell c) (0 + 1) ∅ 0) ⊢ |={Set.univ}=> semVal (barCell c) 0 := by
  unfold base
  iintro ⟨⟨Hr, -⟩, Hat⟩
  ihave #HI := (inv_bar m ρ K c) $$ Hr
  iapply (Rounds.cell_close ER (sched m ρ) (Set.mem_univ (K (c, none))) (fun h => h) (R := 0 + 1) (duties_later m ρ (barCell c)))
  isplitr; · iexact HI
  iexact Hat

/-- What is known for good may be used for every index. -/
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The same for a family. -/
theorem close_family (f : ℕ) : iprop(base m ρ K ∗ bigSep (Finset.range 16) fun k => atPos ER (dCell c f k) (0 + 1) ∅ 0) ⊢ |={Set.univ}=> zeros c f :=
  (bigSep_known fun k _ => close_copy f k).trans (bigSep_fupd _ _)

/-- All waits on a family done. -/
theorem family_end (f : ℕ) : Family m ρ c f 16 ⊢ iprop((bigSep (Finset.range 16) fun k => atPos ER (dCell c f k) (0 + 1) ∅ 0) ∗ bigSep (Finset.range 16) (copyPay m ρ c f)) := by
  unfold Family
  iintro ⟨-, H⟩
  iapply (BIBase.Entails.of_eq (bigSep_sep' (Finset.range 16) (fun k => (atPos ER (dCell c f k) (0 + 1) ∅ 0 : sProp 𝕄)) (copyPay m ρ c f)))
  iexact H

/-- The chunks of each family together. -/
theorem join_send : bigSep (Finset.range 16) (copyPay m ρ c 0) = sBand c 0 512 (sendAt m ρ c) := (sBand_rows c 16 _).symm
theorem join_near : bigSep (Finset.range 16) (copyPay m ρ c 2) = oBand c (near c) 512 (outAt m ρ c) := (oBand_chunks c (near c) 16 _).symm
theorem join_far : bigSep (Finset.range 16) (copyPay m ρ c 3) = oBand c (far c) 512 (outAt m ρ c) := (oBand_chunks c (far c) 16 _).symm

/-- What is held in the end: the argument, the send buffer, the finished result, and all semaphores at zero. -/
def Finished (m : (ℓ : Loc nD τ sig) → Buf (Elt F) ℓ) (ρ : Dev nD → PrngReg) (c : Dev nD) : sProp 𝕄 :=
  iprop(ow c 0 ∗ xPts m ρ c ∗ sBand c 0 512 (sendAt m ρ c) ∗ oBand c 0 2048 (outAt m ρ c) ∗ (zeros c 0 ∗ zeros c 1 ∗ zeros c 2 ∗ zeros c 3) ∗ semVal (barCell c) 0)

theorem finish {R : sProp 𝕄} : iprop((((R ∗ atPos ER (barCell c) (0 + 1) ∅ 0) ∗ Keeping m ρ c 2) ∗ firstDone c) ∗ Draining m ρ K c 16 16 16)
    ⊢ |={Set.univ}=> iprop(R ∗ Finished m ρ c) := by
  unfold Keeping firstDone Draining Finished
  rw [oBand_split]
  iintro ⟨⟨⟨⟨HR, Hbar⟩, Hx, ⟨%f, %hf, Hk⟩⟩, H1⟩, #Hb, HO, H0, H2, H3⟩
  ihave ⟨Ha0, Hp0⟩ := (family_end (m := m) (ρ := ρ) (c := c) 0) $$ H0
  ihave ⟨Ha2, Hp2⟩ := (family_end (m := m) (ρ := ρ) (c := c) 2) $$ H2
  ihave ⟨Ha3, Hp3⟩ := (family_end (m := m) (ρ := ρ) (c := c) 3) $$ H3
  ihave Hs := (BIBase.Entails.of_eq join_send) $$ Hp0
  ihave Hn := (BIBase.Entails.of_eq join_near) $$ Hp2
  ihave Hf := (BIBase.Entails.of_eq join_far) $$ Hp3
  imod (close_bar (m := m) (ρ := ρ) (K := K) (c := c)) $$ [Hbar] with Hzb
  · isplitr; · iexact Hb
    iexact Hbar
  imod (close_family (m := m) (ρ := ρ) (K := K) (c := c) 0) $$ [Ha0] with Hz0
  · isplitr; · iexact Hb
    iexact Ha0
  imod (close_family (m := m) (ρ := ρ) (K := K) (c := c) 1) $$ [H1] with Hz1
  · isplitr; · iexact Hb
    iexact H1
  imod (close_family (m := m) (ρ := ρ) (K := K) (c := c) 2) $$ [Ha2] with Hz2
  · isplitr; · iexact Hb
    iexact Ha2
  imod (close_family (m := m) (ρ := ρ) (K := K) (c := c) 3) $$ [Ha3] with Hz3
  · isplitr; · iexact Hb
    iexact Ha3
  imodintro
  isplitl [HR]; · iexact HR
  isplitl [HO]; · iexact HO
  isplitl [Hx]; · iexact Hx
  isplitl [Hs]; · iexact Hs
  isplitl [Hk Hn Hf]
  · isplitl [Hk]
    · iapply (show oBand c (1024 * xc c) 1024 f ⊢ oBand c (1024 * xc c) 1024 (outAt m ρ c) from
        BIBase.Entails.of_eq (pointsTo_congr (hf (xc_lt c))))
      iexact Hk
    isplitl [Hn] <;> iassumption
  isplitl [Hz0 Hz1 Hz2 Hz3]
  · isplitl [Hz0]; · iexact Hz0
    isplitl [Hz1]; · iexact Hz1
    isplitl [Hz2] <;> iassumption
  iexact Hzb

/-! ## The parts in a row -/

/-- A program followed by another, with a fact about what the first returns. -/
theorem wp_then_fact {c : Dev nD} {α β : Type} {p : Prog (TpuEff nD τ sig (Elt F) Λ₀ .tc) α} {k : α → Prog (TpuEff nD τ sig (Elt F) Λ₀ .tc) β} {P P' : sProp 𝕄} {φ : α → Prop}
    {Q : β → sProp 𝕄} (h : P ⊢ WP c p (fun a => iprop(⌜φ a⌝ ∗ P'))) (h' : ∀ a, φ a → P' ⊢ WP c (k a) Q) : P ⊢ WP c (p >>= k) Q := by
  unfold WP at h h' ⊢; rw [wp_bind]
  refine h.trans (wp_mono _ _ _ fun a => ?_)
  iintro ⟨%ha, H⟩
  iapply (h' a ha); iexact H

/-- The order in which the frame of the parts is kept. -/
theorem frame_order {A B C D E : sProp 𝕄} : iprop((((A ∗ B) ∗ C) ∗ D) ∗ E) ⊢ iprop((((A ∗ D) ∗ B) ∗ C) ∗ E) := by
  iintro ⟨⟨⟨⟨HA, HB⟩, HC⟩, HD⟩, HE⟩
  isplitr [HE]; rotate_left; · iexact HE
  isplitr [HC]; rotate_left; · iexact HC
  isplitr [HB]; rotate_left; · iexact HB
  isplitl [HA] <;> iassumption

/-- What device `c`'s kernel starts from, besides its own result's rows. -/
def Begin (m : (ℓ : Loc nD τ sig) → Buf (Elt F) ℓ) (ρ : Dev nD → PrngReg) (c : Dev nD) : sProp 𝕄 :=
  iprop(xPts m ρ c ∗ (∃ f, sBand c 0 512 f) ∗ copyToks c ∗ copyPos c ∗ copyCreds c)

/-- Part 2 only computes. -/
theorem wp_part2 {P P' : sProp 𝕄} {v27 v30} (h : P ⊢ P') : P ⊢ WP c (onBufs (k0_part2 (F := F)) v27 v30) fun _ => P' := by
  rw [k0_part2_eq_skeleton]; unfold onBufs k0_part2_skel
  simp only [Prog.pure_eq_ret]
  exact wp_done h

set_option maxHeartbeats 4000000 in
/-- Parts 1 to 32 and the two waits after them. -/
theorem wp_part33 {R : sProp 𝕄} :
    iprop((R ∗ Begin m ρ c) ∗ base m ρ K ∗ ow c (O₀ c) ∗ barStart c ∗ ∃ f, oBand c 0 2048 f) ⊢ WP c (onBufs (k0_part33 (F := F))) fun r =>
      iprop(⌜r.1 = c⌝ ∗ (((R ∗ atPos ER (barCell c) (0 + 1) ∅ 0) ∗ Keeping m ρ c 2) ∗ firstDone c) ∗ Draining m ρ K c 16 15 15) := by
  rw [k0_part33_eq_skeleton]; unfold onBufs k0_part33_skel
  refine wp_then_fact wp_part1 ?_
  rintro ⟨d0, v2, v5, v8, v9, v10, v24, v27, v30⟩ ⟨h1, h2⟩
  dsimp only at h1 h2
  subst h1 h2
  refine wp_then (wp_part2 sending_start) fun _ => ?_
  refine wp_then wp_part3 ?_; rintro ⟨v90, c1⟩
  refine wp_then wp_part4 fun _ => ?_
  refine wp_then wp_part5 fun _ => ?_
  refine wp_then wp_part6 fun _ => ?_
  refine wp_then wp_part7 fun _ => ?_
  refine wp_then wp_part8 fun _ => ?_
  refine wp_then wp_part9 fun _ => ?_
  refine wp_then wp_part10 fun _ => ?_
  refine wp_then wp_part11 fun _ => ?_
  refine wp_then wp_part12 fun _ => frame_order.trans ?_
  refine wp_then wp_part13 fun _ => ?_
  refine wp_then wp_part14 fun _ => ?_
  refine wp_then wp_part15 fun _ => ?_
  refine wp_then wp_part16 fun _ => ?_
  refine wp_then wp_part17 fun _ => ?_
  refine wp_then wp_part18 ?_; rintro ⟨v568, v569⟩
  refine wp_then wp_part19 fun _ => ?_
  refine wp_then wp_part20 ?_; rintro ⟨v632, v633⟩
  refine wp_then wp_part21 fun _ => ?_
  refine wp_then wp_part22 ?_; rintro ⟨v697, c0⟩
  refine wp_then wp_part23 fun _ => ?_
  refine wp_then wp_part24 fun _ => ?_
  refine wp_then wp_part25 fun _ => ?_
  refine wp_then wp_part26 fun _ => ?_
  refine wp_then wp_part27 fun _ => ?_
  refine wp_then wp_part28 fun _ => ?_
  refine wp_then wp_part29 fun _ => ?_
  refine wp_then wp_part30 fun _ => ?_
  refine wp_then wp_part31 fun _ => ?_
  refine wp_then wp_part32 fun _ => ?_
  simp only [Prog.lift, Prog.bind_op, Prog.bind_ret, Prog.pure_eq_ret]
  refine wp_drain3 14 (by decide) rfl (credit_oChunk _ _) ?_
  refine wp_drain0 15 (by decide) rfl (credit_sChunk _ _) ?_
  refine wp_done ?_
  iintro H
  isplitr; · (ipureintro; rfl)
  iexact H

/-- A program that returns, after an update. -/
theorem wp_done_upd {c : Dev nD} {α : Type} {a : α} {P : sProp 𝕄} {Q : α → sProp 𝕄} (h : P ⊢ |={Set.univ}=> Q a) : P ⊢ WP c (Prog.ret a) Q := by
  unfold WP; rw [wp_ret]; exact h

set_option maxHeartbeats 1000000 in
/-- The kernel. -/
theorem wp_body {R : sProp 𝕄} :
    iprop((R ∗ Begin m ρ c) ∗ base m ρ K ∗ ow c (O₀ c) ∗ barStart c ∗ ∃ f, oBand c 0 2048 f) ⊢ WP c (onBufs (cc0_body (F := F))) fun _ => iprop(R ∗ Finished m ρ c) := by
  rw [cc0_body_eq_skeleton]; unfold onBufs cc0_body_skel
  refine wp_then_fact wp_part33 ?_
  rintro ⟨d0, v2, v8, v10⟩ h1
  dsimp only at h1
  subst h1
  simp only [Prog.lift, Prog.bind_op, Prog.bind_ret, Prog.pure_eq_ret]
  refine wp_drain2 15 (by decide) rfl (credit_oChunk _ _) ?_
  refine wp_drain3 15 (by decide) rfl (credit_oChunk _ _) ?_
  exact wp_done_upd finish

end Cert.Exchange

end
-- ==== Proof.Deal.lean ====
/-
# Dealing the protocol to the devices

Every device's barrier and copy semaphores become cells of the protocol in one step for the whole mesh; then every device
has the records of all cells, its own places in the rounds, and the duties that it pays: those at its own cells of
families 0 and 2, and those at the barrier and the landing cells of the devices across from it.
-/
module

public import proofs.«01_k».proof.Proof.Whole
public import Idealize.ShloMosaic.Lib.Pipeline.Launch
public import Idealize.ShloMosaic.Lib.Pipeline.Kit
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families of things held -/

/-- One thing for every copy semaphore is four things for every chunk. -/
theorem bigSep_copies (Φ : ℕ → ℕ → sProp 𝕄) : (bigSep (Finset.univ : Finset (Fin 4 × Fin 16)) fun j => Φ j.1.val j.2.val)
    = bigSep (Finset.range 16) fun k => iprop(Φ 0 k ∗ Φ 1 k ∗ Φ 2 k ∗ Φ 3 k) := by
  have h (f : ℕ) : (bigSep (Finset.univ : Finset (Fin 16)) fun k => Φ f k.val) = bigSep (Finset.range 16) (Φ f) := by
    rw [show Finset.range 16 = (Finset.univ : Finset (Fin 16)).map Fin.valEmbedding by rw [Fin.map_valEmbedding_univ, Nat.Iio_eq_range], bigSep_map]
    rfl
  rw [bigSep_univ_prod, bigSep_univ_eq_bigSepL [0, 1, 2, 3] (by decide) (by decide)]
  show iprop((bigSep (Finset.univ : Finset (Fin 16)) fun k => Φ 0 k.val) ∗ (bigSep (Finset.univ : Finset (Fin 16)) fun k => Φ 1 k.val)
    ∗ (bigSep (Finset.univ : Finset (Fin 16)) fun k => Φ 2 k.val) ∗ bigSep (Finset.univ : Finset (Fin 16)) fun k => Φ 3 k.val) = _
  rw [h 0, h 1, h 2, h 3]
  simp only [bigSep_sep']

/-- A thing for every option is one for none and one for each. -/
theorem bigSep_opt {I : Type} [Fintype I] [DecidableEq I] (Φ : Option I → sProp 𝕄) :
    bigSep Finset.univ Φ = iprop(Φ none ∗ bigSep Finset.univ fun i => Φ (some i)) := by
  rw [bigSep_univ_at Φ none, show (Finset.univ.erase none : Finset (Option I)) = Finset.univ.map Function.Embedding.some by
    ext o; cases o <;> simp, bigSep_map]
  rfl

/-- One thing for every semaphore of a device. -/
theorem bigSep_sems (Φ : Option (Fin 4 × Fin 16) → sProp 𝕄) (Ψ : ℕ → ℕ → sProp 𝕄) (h : ∀ j, Φ (some j) = Ψ j.1.val j.2.val) :
    bigSep Finset.univ Φ = iprop(Φ none ∗ bigSep (Finset.range 16) fun k => iprop(Ψ 0 k ∗ Ψ 1 k ∗ Ψ 2 k ∗ Ψ 3 k)) := by
  rw [bigSep_opt, ← bigSep_copies]
  simp only [h]

/-! ## The cells and their duties -/

theorem osem_injective : Function.Injective osem := by
  rintro ⟨⟨f, hf⟩, ⟨k, hk⟩⟩ ⟨⟨f', hf'⟩, ⟨k', hk'⟩⟩ h
  have h' : 2 + 16 * (f % 4) + k % 16 = 2 + 16 * (f' % 4) + k' % 16 := congrArg Fin.val (SemLoc.dma.inj h)
  have e1 : f = f' := by omega
  have e2 : k = k' := by omega
  subst e1 e2
  rfl

theorem csem_injective : Function.Injective csem := by
  rintro (_ | j) (_ | j') h
  · rfl
  · exact absurd h (by intro h'; cases h')
  · exact absurd h (by intro h'; cases h')
  · exact congrArg some (osem_injective h)

theorem kcell_injective : Function.Injective kcell := by
  rintro ⟨c, j⟩ ⟨c', j'⟩ h
  have h1 : c = c' := congrArg (fun g : GSem nD τ sig => g.1.1) h
  subst h1
  exact congrArg (Prod.mk c) (csem_injective (congrArg Prod.snd h))

/-- All cells of the protocol. -/
def cells : Finset (GSem nD τ sig) := Finset.univ.map ⟨kcell, kcell_injective⟩

/-- The duties of a device's cells: its barrier's two, and one for every copy semaphore. -/
abbrev dutyOf (x : Dev nD × Option (Option (Fin 4 × Fin 16))) : GSem nD τ sig × ℕ × Bool := match x.2 with
  | none => (barCell x.1, 0, false)
  | some none => (barCell x.1, 0, true)
  | some (some j) => (kcell (x.1, some j), 0, false)

theorem dutyOf_injective : Function.Injective dutyOf := by
  rintro ⟨c, j⟩ ⟨c', j'⟩ h
  have h1 : c = c' := by
    have := congrArg (fun x : GSem nD τ sig × ℕ × Bool => x.1.1.1) h
    rcases j with _ | _ | j <;> rcases j' with _ | _ | j' <;> exact this
  subst h1
  rcases j with _ | _ | j <;> rcases j' with _ | _ | j'
  · rfl
  · exact absurd (congrArg (fun x : GSem nD τ sig × ℕ × Bool => x.2.2) h) (by intro h'; cases h')
  · exact absurd (congrArg (fun x : GSem nD τ sig × ℕ × Bool => x.1.2) h) (by intro h'; cases h')
  · exact absurd (congrArg (fun x : GSem nD τ sig × ℕ × Bool => x.2.2) h) (by intro h'; cases h')
  · rfl
  · exact absurd (congrArg (fun x : GSem nD τ sig × ℕ × Bool => x.1.2) h) (by intro h'; cases h')
  · exact absurd (congrArg (fun x : GSem nD τ sig × ℕ × Bool => x.1.2) h) (by intro h'; cases h')
  · exact absurd (congrArg (fun x : GSem nD τ sig × ℕ × Bool => x.1.2) h) (by intro h'; cases h')
  · have e : j = j' := osem_injective (congrArg (fun x : GSem nD τ sig × ℕ × Bool => x.1.2) h)
    rw [e]

def allDuties : Finset (GSem nD τ sig × ℕ × Bool) := Finset.univ.map ⟨dutyOf, dutyOf_injective⟩

/-- The duties of a device's own cells, -/
def ownToks (c : Dev nD) : sProp 𝕄 :=
  iprop(dutyTok ER (barCell c) 0 false ∗ dutyTok ER (barCell c) 0 true ∗ bigSep (Finset.range 16) fun k =>
    iprop(dutyTok ER (dCell c 0 k) 0 false ∗ dutyTok ER (dCell c 1 k) 0 false ∗ dutyTok ER (dCell c 2 k) 0 false ∗ dutyTok ER (dCell c 3 k) 0 false))
/-- and the duties that a device pays. -/
def payToks (c : Dev nD) : sProp 𝕄 :=
  iprop((dutyTok ER (barCell (xp c)) 0 false ∗ dutyTok ER (barCell (yp c)) 0 true) ∗ copyToks c)
/-- A device's places in the rounds of its cells. -/
def places (c : Dev nD) : sProp 𝕄 := iprop(atPos ER (barCell c) 0 ∅ 0 ∗ copyPos c)

/-- The duties of all cells go to the devices that pay them. -/
theorem toks_around : (bigSep Finset.univ fun c : Dev nD => (ownToks c : sProp 𝕄)) ⊢ bigSep Finset.univ fun c : Dev nD => payToks c := by
  unfold ownToks payToks copyToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => (bigSep (Finset.range 16) fun k => dutyTok ER (dCell c 1 k) 0 false : sProp 𝕄)),
    bigSep_univ_equiv ySwap (fun c : Dev nD => (bigSep (Finset.range 16) fun k => dutyTok ER (dCell c 3 k) 0 false : sProp 𝕄))]
  iintro ⟨H1, H2, H3, H4, H5, H6⟩
  isplitl [H1 H2]; · isplitl [H1]; · iexact H1
                     iexact H2
  isplitl [H3]; · iexact H3
  isplitl [H4]; · iexact H4
  isplitl [H5]; · iexact H5
  iexact H6

/-! ## From the launch to the records -/

/-- What a device has of the protocol before its cells are made, -/
def G (c : Dev nD) : sProp 𝕄 :=
  iprop((bigSep Finset.univ fun j => roundState ER (sched m ρ) (kcell (c, j)) 0)
    ∗ (bigSep Finset.univ fun j => iprop(atPos ER (kcell (c, j)) 0 ∅ 0 ∗ reached ER (kcell (c, j)) 0)) ∗ ownToks c)
/-- and after. -/
def G' (c : Dev nD) : sProp 𝕄 := iprop(∃ K, records m ρ K ∗ places c ∗ payToks c)

theorem fund : BI.own (ER (initOf cells allDuties)) ⊢ (|==> bigSep Finset.univ (G m ρ) : sProp 𝕄) := by
  have hX (Φ : GSem nD τ sig → sProp 𝕄) : bigSep cells Φ = bigSep Finset.univ fun c : Dev nD => bigSep Finset.univ fun j => Φ (kcell (c, j)) := by
    unfold cells; rw [bigSep_map, bigSep_univ_prod]; rfl
  have hT : bigSep allDuties (fun x => (dutyTok ER x.1 x.2.1 x.2.2 : sProp 𝕄)) = bigSep Finset.univ fun c : Dev nD => ownToks c := by
    unfold allDuties; rw [bigSep_map, bigSep_univ_prod]
    exact bigSep_congr fun c _ => by
      rw [bigSep_opt, bigSep_sems _ (fun f k => dutyTok ER (dCell c f k) 0 false) fun j => rfl]; rfl
  iintro HX
  imod (Rounds.fund ER (sched m ρ) cells allDuties) $$ HX with ⟨Hst, Hr, Hat, Htok⟩
  imodintro
  ihave Hst' := (BIBase.Entails.of_eq (hX fun g => roundState ER (sched m ρ) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat'] <;> iassumption
  iexact Htok'

/-- The barrier is the one semaphore outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The copy semaphores are the kernel's own. -/
theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0 zeros
  rw [bigSep_copies fun f k => semVal (dCell c f k) 0]
  simp only [bigSep_sep']

/-- A device's semaphores, all at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun j => semVal (kcell (c, j)) 0 : sProp 𝕄) := by
  rw [unscopedSems0_eq, bigSep_opt]
  unfold Pipeline.ownSems0
  iintro ⟨HS, HB⟩
  isplitl [HB]; · iexact HB
  iexact HS

/-- A device's cells are made. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ ownToks c) := by
  unfold G
  iintro ⟨Hos, Hus, Hst, Hat, Htok⟩
  ihave Hv := (sems0 (F := F) c) $$ [Hos Hus]
  · isplitl [Hos] <;> iassumption
  imod (show iprop((bigSep Finset.univ fun j => semVal (kcell (c, j)) 0) ∗ bigSep Finset.univ fun j => roundState ER (sched m ρ) (kcell (c, j)) 0)
      ⊢ (|={Set.univ}=> bigSep Finset.univ fun j => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The places are those of the barrier and of the copy semaphores. -/
theorem places_eq (c : Dev nD) : (bigSep Finset.univ fun j => (atPos ER (kcell (c, j)) 0 ∅ 0 : sProp 𝕄)) = places c :=
  bigSep_sems _ (fun f k => atPos ER (dCell c f k) 0 ∅ 0) fun j => rfl

/-- All devices' cells as records, and everything where it is used. -/
theorem regroup :
    (bigSep Finset.univ fun c : Dev nD => iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ ownToks c) : sProp 𝕄)
      ⊢ bigSep Finset.univ (G' m ρ) := by
  simp only [bigSep_sep']
  rw [← bigSep_univ_prod (fun x : Key => iprop(∃ κ : ℕ, cellInv ER (sched m ρ) κ (kcell x))),
    ← bigSep_univ_prod (fun x : Key => (reached ER (kcell x) 0 : sProp 𝕄))]
  simp only [places_eq]
  iintro ⟨HI, ⟨Hat, #HR⟩, Htok⟩
  ihave HK := (BI.bigSep_exists_pi Finset.univ (fun (x : Key) (κ : ℕ) => (cellInv ER (sched m ρ) κ (kcell x) : sProp 𝕄))) $$ HI
  icases HK with ⟨%K, #HI⟩
  ihave Htk := (toks_around (F := F)) $$ Htok
  iapply (bigSep_known (R := records m ρ K) (Φ := fun c : Dev nD => iprop(places c ∗ payToks c)) (Ψ := G' m ρ) fun c _ =>
    show iprop(records m ρ K ∗ places c ∗ payToks c) ⊢ G' m ρ c from by unfold G'; iintro H; iexists K; iexact H)
  isplitr
  · unfold records; isplitl; · iexact HI
    iexact HR
  · iapply (BIBase.Entails.of_eq (bigSep_sep' Finset.univ (fun c : Dev nD => (places c : sProp 𝕄)) payToks).symm)
    isplitl [Hat]; · iexact Hat
    iexact Htk

/-- The step for the whole mesh. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exchange

end
-- ==== Proof.Launch.lean ====
/-
# The launch

The kernel runs once on every device, between the fetch of its argument and the write of its result. With what each
device owes at the start, and the credit that the owners of the landings hold for it, every run of the sixteen devices
ends, the argument unchanged, the result as computed, and every semaphore counter back at zero.
-/
module

public import proofs.«01_k».proof.Proof.Deal

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the kernel -/

/-- What a device's kernel starts from, beside its buffers: its part of the protocol, its credit, and the levels. -/
def start (c : Dev nD) : sProp 𝕄 := iprop(G' m ρ c ∗ (cred (tallyAt (barCell c) () 2) ∗ copyCreds c) ∗ levAts L lv)

/-- Before the kernel: that, and a send buffer of any contents. -/
def Φ₀ (c : Dev nD) : sProp 𝕄 := iprop(start m ρ c ∗ ∃ f, sBand c 0 512 f)
/-- After it: the send buffer, and every semaphore at zero. -/
def Φ₁ (c : Dev nD) : sProp 𝕄 :=
  iprop(sBand c 0 512 (sendAt m ρ c) ∗ (zeros c 0 ∗ zeros c 1 ∗ zeros c 2 ∗ zeros c 3) ∗ semVal (barCell c) 0)

/-- The arrays, the staging buffers and the protocol around the one point of the grid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_x (t : Fin cfg0.N) : (cfg0.win (0 : Fin 2)).fetch t = true := by rw [show t = t0_0 from fin_N0 t]; rfl

/-- A whole buffer owned at some contents is those contents at its place. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at some contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Φ₁ m ρ c ∗ (dats m ρ 0 c).owesAt () (t0_0 : Fin cfg0.N).succ ∗ stg c cc0_stg0_0 (xstg m ρ c) ∗ stg c cc0_stg1_0 (outAt m ρ c))

set_option maxRecDepth 4000 in
/-- All that is held before the kernel, sorted for it. -/
theorem body_start (c : Dev nD) : bodyPre m ρ c ⊢ iprop(∃ K, (emp ∗ Begin m ρ c) ∗ base m ρ K ∗ ow c (O₀ c) ∗ barStart c ∗ ∃ f, oBand c 0 2048 f) := by
  unfold bodyPre Φ₀ start G' places payToks Begin base barStart Dat.owesAt Pipeline.owesWithin xPts ow
  rw [show (dats m ρ 0 c).owed (t0_0 : Fin cfg0.N).castSucc = O₀ c from rfl]
  iintro ⟨⟨⟨⟨%K, Hrec, ⟨Hpb, Hpc⟩, ⟨Htf, Htt⟩, Htc⟩, ⟨Hcb, Hcc⟩, Hlev⟩, Hs⟩, ⟨%W, %hW, HO⟩, ⟨%d0, %g0, %hg0, Hx⟩, ⟨%d1, %g1, %hg1, Ho⟩⟩
  have hx : g0 = xstg m ρ c := by rw [hg0]; unfold Dat.before; rw [if_pos (fetch_x t0_0)]; rfl
  subst hx
  iexists K
  isplitl [Hx Hs Htc Hpc Hcc]
  · isplitr; · iempintro
    isplitl [Hx]; · iexact Hx
    isplitl [Hs]; · iexact Hs
    isplitl [Htc]; · iexact Htc
    isplitl [Hpc]; · iexact Hpc
    iexact Hcc
  isplitl [Hrec Hlev]; · isplitl [Hrec] <;> iassumption
  isplitl [HO]; · iexists W; iexact HO
  isplitl [Hcb Hpb Htf Htt]
  · isplitl [Hcb Hpb]; · isplitl [Hcb] <;> iassumption
    isplitl [Htf] <;> iassumption
  iexists g1
  iapply (BIBase.Entails.of_eq (oBand_all c g1).symm)
  iexact Ho

set_option maxRecDepth 4000 in
/-- What the kernel leaves is what is due after it. -/
theorem body_end (c : Dev nD) : iprop(emp ∗ Finished m ρ c) ⊢ bodyPost m ρ c := by
  unfold bodyPost Φ₁ Finished Dat.owesAt Pipeline.owesWithin xPts ow
  rw [show (dats m ρ 0 c).owed (t0_0 : Fin cfg0.N).succ = 0 from rfl]
  iintro ⟨-, ⟨%W, HO⟩, Hx, Hs, Ho, Hz, Hb⟩
  isplitl [Hs Hz Hb]
  · isplitl [Hs]; · iexact Hs
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iapply (BIBase.Entails.of_eq (oBand_all c (outAt m ρ c)))
  iexact Ho

/-- The kernel between the two. -/
theorem body_between (c : Dev nD) : bodyPre m ρ c ⊢ WP c (onBufs (cc0_body (F := F))) fun _ => bodyPost m ρ c :=
  (body_start m ρ c).trans (BIClass.exists_elim fun K => wp_body.trans (wp_mono _ _ _ fun _ => body_end m ρ c))

set_option maxRecDepth 4000 in
/-- What the launch asks of the kernel on device `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  exact body_between m ρ c

/-! ## The credit at the start -/

/-- What the sixteen landings of one family at one device owe at a copy semaphore. -/
theorem owed_family (d c : Dev nD) (f g k : ℕ) (hf : f < 4) (hg : g < 4) (hk : k < 16) :
    (∑ j ∈ Finset.Ico 0 16, (tallyAt (dCell d f j) () N : CellTallies nD τ sig Unit)) (dCell c g k) () = if c = d ∧ g = f then N else 0 := by
  have h : ∀ j ∈ Finset.Ico 0 16, (tallyAt (dCell d f j) () N : CellTallies nD τ sig Unit) (dCell c g k) () = if j = k then (if c = d ∧ g = f then N else 0) else 0 := by
    intro j hj
    have hj' : j < 16 := (Finset.mem_Ico.mp hj).2
    rw [tallyAt_apply]
    by_cases e : j = k ∧ c = d ∧ g = f
    · obtain ⟨rfl, rfl, rfl⟩ := e
      rw [if_pos ⟨rfl, rfl⟩, if_pos rfl, if_pos ⟨rfl, rfl⟩]
    · rw [if_neg]
      · by_cases e1 : j = k
        · rw [if_pos e1, if_neg fun e2 => e ⟨e1, e2⟩]
        · rw [if_neg e1]
      · rintro ⟨h, -⟩
        have h1 : c = d := congrArg (fun x : GSem nD τ sig => x.1.1) h
        have h2 : 2 + 16 * (g % 4) + k % 16 = 2 + 16 * (f % 4) + j % 16 := congrArg Fin.val (SemLoc.dma.inj (congrArg Prod.snd h))
        exact e ⟨by omega, h1, by omega⟩
  rw [Finset.sum_apply, Finsupp.finset_sum_apply, Finset.sum_congr rfl h, Finset.sum_ite_eq' _ k, if_pos (Finset.mem_Ico.mpr ⟨Nat.zero_le _, hk⟩)]

/-- Copies owe nothing at a barrier, -/
theorem owed_family_bar (d c : Dev nD) (f : ℕ) :
    (∑ j ∈ Finset.Ico 0 16, (tallyAt (dCell d f j) () N : CellTallies nD τ sig Unit)) (barCell c) () = 0 := by
  rw [Finset.sum_apply, Finsupp.finset_sum_apply]
  exact Finset.sum_eq_zero fun j _ => by rw [tallyAt_ne_cell fun h => absurd (congrArg Prod.snd h) (by intro h'; cases h')]; rfl

/-- and a barrier unit is owed at its own barrier only. -/
theorem owed_unit (d c : Dev nD) : (tallyAt (barCell d) () 1 : CellTallies nD τ sig Unit) (barCell c) () = if c = d then 1 else 0 := by
  rw [tallyAt_apply]
  by_cases h : c = d
  · rw [if_pos h, if_pos ⟨by rw [h], rfl⟩]
  · rw [if_neg h, if_neg fun e => h (congrArg (fun x : GSem nD τ sig => x.1.1) e.1)]

theorem eq_xp_iff (c d : Dev nD) : c = xp d ↔ d = xp c := ⟨fun h => by rw [h, xp_xp], fun h => by rw [h, xp_xp]⟩
theorem eq_yp_iff (c d : Dev nD) : c = yp d ↔ d = yp c := ⟨fun h => by rw [h, yp_yp], fun h => by rw [h, yp_yp]⟩

/-- What device `d` owes at the barrier of `c`, -/
theorem owed_bar (d c : Dev nD) : O₀ d (barCell c) () = (if d = yp c then 1 else 0) + if d = xp c then 1 else 0 := by
  unfold O₀ OX OY
  simp only [Pi.add_apply, Finsupp.add_apply]
  rw [owed_family_bar, owed_family_bar, owed_unit, owed_unit, Nat.zero_add]
  simp only [eq_yp_iff c d, eq_xp_iff c d]
/-- and at its copy semaphores. -/
theorem owed_copy (d c : Dev nD) (f k : ℕ) (hf : f < 4) (hk : k < 16) :
    O₀ d (dCell c f k) () = (if d = xp c then if f = 1 then N else 0 else 0) + if d = yp c then if f = 3 then N else 0 else 0 := by
  unfold O₀ OX OY
  simp only [Pi.add_apply, Finsupp.add_apply]
  rw [owed_family _ _ _ _ _ (by decide) hf hk, owed_family _ _ _ _ _ (by decide) hf hk,
    tallyAt_ne_cell fun h => absurd (congrArg Prod.snd h) (by intro h'; cases h'), tallyAt_ne_cell fun h => absurd (congrArg Prod.snd h) (by intro h'; cases h')]
  simp only [Finsupp.zero_apply, Nat.add_zero, eq_xp_iff c d, eq_yp_iff c d, ite_and]

/-- So a device holds credit for two units at its barrier, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
/-- and for one chunk at each of its landings. -/
theorem launch_copy (c : Dev nD) (f k : ℕ) (hf : f = 1 ∨ f = 3) (hk : k < 16) :
    tallyOn (dCell c f k) (launchCredit (Pipeline.owing O₀) 0 (dCell c f k)) = (tallyAt (dCell c f k) () N : CellTallies nD τ sig Unit) := by
  unfold tallyAt; refine congrArg _ (Finsupp.ext fun u => ?_); cases u
  rw [Pipeline.launchCredit_owing, Finsupp.single_eq_same, Finset.sum_congr rfl fun d _ => owed_copy d c f k (by omega) hk, Finset.sum_add_distrib,
    Finset.sum_ite_eq' Finset.univ (xp c) fun _ => _, Finset.sum_ite_eq' Finset.univ (yp c) fun _ => _, if_pos (Finset.mem_univ _), if_pos (Finset.mem_univ _)]
  rcases hf with rfl | rfl <;> rfl

/-- A device's credit at the start. -/
theorem creds (c : Dev nD) : (Pipeline.launchCred O₀ c : sProp 𝕄) ⊢ iprop(cred (tallyAt (barCell c) () 2) ∗ copyCreds c) := by
  unfold Pipeline.launchCred
  refine (bigSep_subset (Finset.subset_univ (Finset.univ.map ⟨csem, csem_injective⟩))).trans ?_
  rw [bigSep_map, bigSep_sems _ (fun f k => cred (tallyOn (dCell c f k) (launchCredit (Pipeline.owing O₀) 0 (dCell c f k)))) fun j => rfl]
  unfold copyCreds
  rw [← launch_bar]
  refine (show ∀ A B C : sProp 𝕄, (B ⊢ C) → iprop(A ∗ B) ⊢ iprop(A ∗ C) from fun A B C h => sep_mono_right h) _ _ _ (bigSep_mono fun k hk => ?_)
  rw [launch_copy c 1 k (Or.inl rfl) (Finset.mem_range.mp hk), launch_copy c 3 k (Or.inr rfl) (Finset.mem_range.mp hk)]
  exact (show ∀ A B C D : sProp 𝕄, iprop(A ∗ B ∗ C ∗ D) ⊢ iprop(B ∗ D) from fun A B C D => by
    iintro ⟨-, H1, -, H3⟩; isplitl [H1] <;> iassumption) _ _ _ _

/-! ## The launch's conditions -/

theorem ownSemFacts : Pipeline.OwnSemFacts cfg0.spec osem := by decide

theorem share_eq (c : Dev nD) (w : Fin cfg0.W) : (dats m ρ 0 c).share w = fullShare := by unfold Dat.share; split <;> rfl

/-- The ghost state at the start: the staging's, and the protocol's. -/
def u₀ : UU := (initOf (Pipeline.cells cfgs cellOf_inj) (Pipeline.launchToks cfgs cellOf_inj), initOf cells allDuties)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f
  iapply (BIBase.Entails.of_eq (sBand_all c f).symm)
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hs, Hz, Hb⟩
  isplitl [Hb]; · iexact Hb
  isplitl [Hz]; · iexact Hz
  iexists (sendAt m ρ c)
  iapply (BIBase.Entails.of_eq (sBand_all c (sendAt m ρ c)))
  iexact Hs

/-- The staging's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> exact Nat.le_refl 0) (by
      rcases t with ⟨_ | _, ht⟩
      · exact above_O₀ c
      · exact above_zero 0)

/-! ## The run -/

/-- What an array holds in the end. -/
def finalA (c : Dev nD) (w : Fin cfg0.W) : Buf (Elt F) ((cfg0.win w).arr.view.loc (c : Thread nD τ)) := (dats m ρ 0 c).arrAt w cfg0.N

/-- Every array of every device is as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values: every run ends with the arrays as computed and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
# The result as a part of the whole array

The devices' arguments are the two halves, by rows, of one array of 2048 rows and 1024 columns; their results are its two
halves by columns. This file says so of the contents that the kernel computes.
-/
module

public import proofs.«01_k».proof.Proof.Launch
public import Idealize.ShloMosaic.Lib.Layout

@[expose] public section

noncomputable section

namespace Cert.Exchange

open Cert.KernelIdeal Cert.KernelIdeal.Gen
open Idealize.ShloMosaic
open Idealize.ShloMosaic.TcCoe
open Idealize.SL Idealize.SL.RA Idealize.SL.BI

variable {F : FTy → Type} [FloatOps F]

variable (m : (ℓ : Loc nD τ sig) → Buf (Elt F) ℓ) (ρ : Dev nD → PrngReg)

/-- What is staged is the whole argument. -/
theorem xstg_eq (c : Dev nD) : xstg m ρ c = m ((c : Thread nD τ).loc main_arg0) := by
  have hz : (fun a => (win0_0.index (0 : Fin 1)) a * main_arg0.ty.shape.size a) = fun _ => 0 := funext fun a => Nat.zero_mul _
  exact Memref.read_access_unit_zero (Elt F) main_arg0 hz (fun a => by fin_cases a <;> decide) _

/-- What is written back is the whole result. -/
theorem finalA_out (c : Dev nD) : finalA m ρ c (1 : Fin 2) = outAt m ρ c := by
  have hz : (fun a => (win0_1.index (0 : Fin 1)) a * main_v1.ty.shape.size a) = fun _ => 0 := funext fun a => Nat.zero_mul _
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 hz (fun a => by fin_cases a <;> decide) _).symm.trans h

/-- The first coordinate of the device that a row of the result is from tells the half that the row is in. -/
theorem xc_src (c : Dev nD) {r : ℕ} (h : r < 2048) : xc (src c r) = r / 1024 := by
  have hx := xc_lt c
  unfold src
  split
  · omega
  · split
    · rw [xc_xp]; omega
    · rw [xc_xp, xc_yp]; omega

/-- A device's place in a cut along the first axis of the mesh is its first coordinate. -/
theorem meshLin_first (c : Dev nD) : Layout.meshLin [2, 2, 4] c.val [0] = xc c := by
  have h : c.val < 16 := c.isLt
  show c.val / 8 % 2 * 1 + 0 = c.val / 8
  omega

/-- If the arguments are the halves by rows of one array, the results are its halves by columns. -/
theorem outAt_block (X : (⟨2, ![2048, 1024]⟩ : Shape).Idx → Elt F .f32)
    (hX : ∀ c : Dev nD, m ((c : Thread nD τ).loc main_arg0)
      = Layout.blockN ⟨2, ![1024, 1024]⟩ ⟨2, ![2048, 1024]⟩ (Layout.meshBlock [2, 2, 4] ![[0], []] c) X) (c : Dev nD) :
    outAt m ρ c = Layout.blockN ⟨2, ![2048, 512]⟩ ⟨2, ![2048, 1024]⟩ (Layout.meshBlock [2, 2, 4] ![[], [0]] c) X := by
  funext i
  have hr : (i 0).val < 2048 := (i 0).isLt
  have hj : (i 1).val < 512 := (i 1).isLt
  have hx := xc_lt c
  rw [outAt_apply]
  unfold xAt
  rw [xstg_eq, hX, Layout.blockN_apply, Layout.blockN_apply]
  congr 1
  funext b
  refine Fin.ext ?_
  match b with
  | ⟨0, _⟩ =>
    show Layout.meshLin [2, 2, 4] (src c (i 0).val).val [0] * 1024 + (i 0).val % 1024 % 1024 = 0 * 2048 + (i 0).val
    rw [meshLin_first, xc_src c hr]
    omega
  | ⟨1, _⟩ =>
    show 0 * 1024 + (512 * xc c + (i 1).val) % 1024 = Layout.meshLin [2, 2, 4] c.val [0] * 512 + (i 1).val
    rw [meshLin_first]
    omega

end Cert.Exchange

end
-- ==== Proof.Claims.lean ====
/-
# The claims

Both readings of the kernel run alike, whatever the float values are, since it only moves them; the reference has no
operation, so it ends as it begins.
-/
module

public import proofs.«01_k».proof.Defs
public import proofs.«01_k».proof.Proof.Value
public import proofs.«01_k».proof.Proof.Gen.Kernel
public import proofs.«01_k».proof.Proof.Gen.ReferenceIdeal
public import Idealize.ShloMosaic.Lib.Quiescent
public import Idealize.ShloMosaic.Lib.StableHlo.Run

@[expose] public section

noncomputable section

namespace Cert.Exchange

open Idealize.ShloMosaic Idealize.ShloMosaic.TcCoe Idealize.SL.Sem

variable {F : FTy → Type} [FloatOps F]

/-- Over any float values the kernel ends, its argument unchanged, every semaphore counter at zero. -/
theorem run_frame (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (finalA_x m ρ c), h.2⟩) (run_main m ρ)

/-- The two readings have the same table of kernel bodies. -/
theorem same_bodies : Cert.Kernel.defs₀ (F := F) = Cert.KernelIdeal.defs₀ (F := F) := by
  refine congrArg Defs.onTc (funext fun l => funext fun a => ?_)
  match l, a with
  | 0, (_, _) => rfl

/-- And the same table of bodies, regions and pipelines. -/
theorem same_defs : Cert.Kernel.defs (F := F) = Cert.KernelIdeal.defs (F := F) :=
  congrArg (Pipeline.defs Cert.KernelIdeal.pcfgs) same_bodies

/-- The kernel with floats as words: it ends, its argument unchanged, every semaphore counter at zero. -/
theorem frame_kernel : Cert.quiescent_Kernel := fun m ρ _ => by
  have h := run_frame (F := Bits) m ρ
  rw [← same_defs] at h
  exact h

/-- So does its reading with exact numbers. -/
theorem frame_ideal : Cert.quiescent_KernelIdeal := fun m ρ _ => run_frame (F := Ideal) m ρ

/-- The reference ends with all its buffers as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ (c : Dev Cert.ReferenceIdeal.nD) (b : Ref Cert.ReferenceIdeal.sig .tc),
        r.2.mem ((c.tc : Thread Cert.ReferenceIdeal.nD Cert.ReferenceIdeal.τ).loc b) = m ((c.tc : Thread Cert.ReferenceIdeal.nD Cert.ReferenceIdeal.τ).loc b) :=
  StableHlo.run_seq (by decide) (by decide) Cert.ReferenceIdeal.defs Cert.ReferenceIdeal.main (fun _ => []) (fun _ => rfl) (fun _ => trivial) m ρ

/-- It ends, its argument unchanged; it has no semaphore. -/
theorem frame_reference : Cert.quiescent_ReferenceIdeal := fun m ρ _ =>
  (θ_run Cert.ReferenceIdeal.defs _ _).mono (fun r h => ⟨fun c => h c Cert.ReferenceIdeal.main_arg0, sem_eq_zero_of_no_sems (by decide) r.2⟩) (run_reference m ρ)

/-- From the halves by rows of the reference's argument, the kernel's results are the halves by columns of the reference's
    result. -/
theorem algebraic : Cert.algebraic_KernelIdeal_ReferenceIdeal := fun m ρ m' ρ' _ hX =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c (1 : Fin 2)).trans ((finalA_out m ρ c).trans (outAt_block m ρ _ hX c)), (h.1 c (0 : Fin 2)).trans (finalA_x m ρ c)⟩)
      (run_main (F := Ideal) m ρ),
    (θ_run Cert.ReferenceIdeal.defs _ _).mono (fun _ h => ⟨h 0 Cert.ReferenceIdeal.main_arg0, h 0 Cert.ReferenceIdeal.main_arg0⟩) (run_reference m' ρ')⟩

end Cert.Exchange

end
-- ==== Proof.lean ====
/-
# The certificate

The side conditions of the three programs hold, the kernel and its exact reading end with their argument unchanged and
every semaphore counter at zero, so does the reference, no operation was rewritten between the two readings, and the
kernel's results are the halves by columns of the reference's result.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Exchange.frame_kernel,
    Cert.Exchange.frame_ideal, Cert.Exchange.frame_reference, trivial, Cert.Exchange.algebraic⟩

end Cert.Proof

end
